-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S256x32 : Shape := ⟨2, ![256, 32]⟩
abbrev S17 : Shape := ⟨1, ![17]⟩
abbrev S16x2048x2048 : Shape := ⟨3, ![16, 2048, 2048]⟩
abbrev S16 : Shape := ⟨1, ![16]⟩
abbrev S2048x256 : Shape := ⟨2, ![2048, 256]⟩
abbrev S8x256x2048 : Shape := ⟨3, ![8, 256, 2048]⟩
abbrev S3 : Shape := ⟨1, ![3]⟩
abbrev S_ : Shape := ⟨0, ![]⟩
abbrev S8 : Shape := ⟨1, ![8]⟩
abbrev S1 : Shape := ⟨1, ![1]⟩
abbrev S1x256x2048 : Shape := ⟨3, ![1, 256, 2048]⟩
abbrev S256x128 : Shape := ⟨2, ![256, 128]⟩
abbrev S256x1 : Shape := ⟨2, ![256, 1]⟩
abbrev S128x256 : Shape := ⟨2, ![128, 256]⟩
abbrev S256x256 : Shape := ⟨2, ![256, 256]⟩

abbrev nBuf : Space → Nat
  | .hbm => 5
  | .vmem => 6
  | .smem => 2
  | _ => 0

abbrev bufTy : (tb : Table) → Fin (tcTables nBuf tb) → BufTy
  | .hbm, ⟨0, _⟩ => ⟨S256x2048, .fp8e4m3⟩
  | .hbm, ⟨1, _⟩ => ⟨S256x32, .f32⟩
  | .hbm, ⟨2, _⟩ => ⟨S17, .i32⟩
  | .hbm, ⟨3, _⟩ => ⟨S16x2048x2048, .f32⟩
  | .hbm, ⟨4, _⟩ => ⟨S16, .i32⟩
  | .local _ .vmem, ⟨0, _⟩ => ⟨S256x2048, .fp8e4m3⟩
  | .local _ .vmem, ⟨1, _⟩ => ⟨S256x32, .f32⟩
  | .local _ .vmem, ⟨2, _⟩ => ⟨S256x2048, .bf16⟩
  | .local _ .vmem, ⟨3, _⟩ => ⟨S2048x256, .bf16⟩
  | .local _ .vmem, ⟨4, _⟩ => ⟨S256x2048, .f32⟩
  | .local _ .vmem, ⟨5, _⟩ => ⟨S8x256x2048, .f32⟩
  | .local _ .smem, ⟨0, _⟩ => ⟨S17, .i32⟩
  | .local _ .smem, ⟨1, _⟩ => ⟨S16, .i32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_34 : BitVec 32 := 0#32
  let c16_i32 : BitVec 32 := 16#32
  let v76 : BitVec 32 := Scalar.addi c0_i32_34 c16_i32
  let c1_i32_35 : BitVec 32 := 1#32
  ⟨c0_i32_34, v76, c1_i32_35⟩
def k0_off1 (k0_t1 : Fin k0_t1_loop.trips) : Fin 1 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c1_i32_157 : BitVec 32 := 1#32
  let v438 : BitVec 32 := Scalar.addi v437 c1_i32_157
  let v439 : Index := Scalar.indexCast v438
  ![v439.toNat]
def k0_off2 (k0_t1 : Fin k0_t1_loop.trips) : Fin 1 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let v441 : Index := Scalar.indexCast v437
  ![v441.toNat]
def k0_off3 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c0_i32_159 : BitVec 32 := 0#32
  let c0_i32_160 : BitVec 32 := 0#32
  ![v437.toNat, 0, 0]
def k0_off4 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c256_i32 : BitVec 32 := 256#32
  let c0_i32_161 : BitVec 32 := 0#32
  ![v437.toNat, 256, 0]
def k0_off5 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c512_i32 : BitVec 32 := 512#32
  let c0_i32_162 : BitVec 32 := 0#32
  ![v437.toNat, 512, 0]
def k0_off6 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c768_i32 : BitVec 32 := 768#32
  let c0_i32_163 : BitVec 32 := 0#32
  ![v437.toNat, 768, 0]
def k0_off7 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c1024_i32 : BitVec 32 := 1024#32
  let c0_i32_164 : BitVec 32 := 0#32
  ![v437.toNat, 1024, 0]
def k0_off8 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c1280_i32 : BitVec 32 := 1280#32
  let c0_i32_165 : BitVec 32 := 0#32
  ![v437.toNat, 1280, 0]
def k0_off9 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c1536_i32 : BitVec 32 := 1536#32
  let c0_i32_166 : BitVec 32 := 0#32
  ![v437.toNat, 1536, 0]
def k0_off10 (k0_t1 : Fin k0_t1_loop.trips) : Fin 3 → Nat :=
  let c0_i32_156 : BitVec 32 := 0#32
  let c0_i32_34 : BitVec 32 := 0#32
  let c1_i32_35 : BitVec 32 := 1#32
  let arg17 : BitVec 32 := Scf.iv c0_i32_34 c1_i32_35 k0_t1
  let c1_i32_155 : BitVec 32 := 1#32
  let v436 : BitVec 32 := Scalar.muli arg17 c1_i32_155
  let v437 : BitVec 32 := Scalar.addi c0_i32_156 v436
  let c1792_i32 : BitVec 32 := 1792#32
  let c0_i32_167 : BitVec 32 := 0#32
  ![v437.toNat, 1792, 0]
@[reducible] def k0_t2_loop : Scf.Loop 32 :=
  let c0_i32_138 : BitVec 32 := 0#32
  let c16_i32_139 : BitVec 32 := 16#32
  let v420 : BitVec 32 := Scalar.addi c0_i32_138 c16_i32_139
  let c1_i32_140 : BitVec 32 := 1#32
  ⟨c0_i32_138, v420, c1_i32_140⟩
def k0_off11 (k0_t2 : Fin k0_t2_loop.trips) : Fin 1 → Nat :=
  let c0_i32_138 : BitVec 32 := 0#32
  let c1_i32_140 : BitVec 32 := 1#32
  let arg17 : BitVec 32 := Scf.iv c0_i32_138 c1_i32_140 k0_t2
  let v436 : Index := Scalar.indexCast arg17
  ![v436.toNat]
def k0_off12 (k0_t2 : Fin k0_t2_loop.trips) : Fin 1 → Nat :=
  let c0_i32_138 : BitVec 32 := 0#32
  let c1_i32_140 : BitVec 32 := 1#32
  let arg17 : BitVec 32 := Scf.iv c0_i32_138 c1_i32_140 k0_t2
  let c1_i32_155 : BitVec 32 := 1#32
  let v438 : BitVec 32 := Scalar.addi arg17 c1_i32_155
  let v439 : Index := Scalar.indexCast v438
  ![v439.toNat]
def k0_off13 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c0_i32_283 : BitVec 32 := 0#32
  let c0_i32_284 : BitVec 32 := 0#32
  ![arg17.toNat, 0, 0]
def k0_off14 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c0_i32_170 : BitVec 32 := 0#32
  let c0_i32_171 : BitVec 32 := 0#32
  ![arg17.toNat, 0, 0]
def k0_off15 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c256_i32_283 : BitVec 32 := 256#32
  let c0_i32_284 : BitVec 32 := 0#32
  ![arg17.toNat, 256, 0]
def k0_off16 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c256_i32 : BitVec 32 := 256#32
  let c0_i32_187 : BitVec 32 := 0#32
  ![arg17.toNat, 256, 0]
def k0_off17 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c512_i32_283 : BitVec 32 := 512#32
  let c0_i32_284 : BitVec 32 := 0#32
  ![arg17.toNat, 512, 0]
def k0_off18 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c512_i32 : BitVec 32 := 512#32
  let c0_i32_203 : BitVec 32 := 0#32
  ![arg17.toNat, 512, 0]
def k0_off19 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c768_i32_283 : BitVec 32 := 768#32
  let c0_i32_284 : BitVec 32 := 0#32
  ![arg17.toNat, 768, 0]
def k0_off20 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c768_i32 : BitVec 32 := 768#32
  let c0_i32_218 : BitVec 32 := 0#32
  ![arg17.toNat, 768, 0]
def k0_off21 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1024_i32_283 : BitVec 32 := 1024#32
  let c0_i32_284 : BitVec 32 := 0#32
  ![arg17.toNat, 1024, 0]
def k0_off22 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1024_i32 : BitVec 32 := 1024#32
  let c0_i32_233 : BitVec 32 := 0#32
  ![arg17.toNat, 1024, 0]
def k0_off23 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1280_i32_283 : BitVec 32 := 1280#32
  let c0_i32_284 : BitVec 32 := 0#32
  ![arg17.toNat, 1280, 0]
def k0_off24 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1280_i32 : BitVec 32 := 1280#32
  let c0_i32_248 : BitVec 32 := 0#32
  ![arg17.toNat, 1280, 0]
def k0_off25 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1536_i32_283 : BitVec 32 := 1536#32
  let c0_i32_284 : BitVec 32 := 0#32
  ![arg17.toNat, 1536, 0]
def k0_off26 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1536_i32 : BitVec 32 := 1536#32
  let c0_i32_263 : BitVec 32 := 0#32
  ![arg17.toNat, 1536, 0]
def k0_off27 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1792_i32_283 : BitVec 32 := 1792#32
  let c0_i32_284 : BitVec 32 := 0#32
  ![arg17.toNat, 1792, 0]
def k0_off28 (k0_t2 : Fin k0_t2_loop.trips) : Fin 3 → Nat :=
  let c0_i32_138 : BitVec 32 := 0#32
  let c1_i32_140 : BitVec 32 := 1#32
  let arg17 : BitVec 32 := Scf.iv c0_i32_138 c1_i32_140 k0_t2
  let c1792_i32 : BitVec 32 := 1792#32
  let c0_i32_278 : BitVec 32 := 0#32
  ![arg17.toNat, 1792, 0]
@[reducible] def k0_t3_loop (v421 : BitVec 32) : Scf.Loop 32 :=
  let c0_i32_151 : BitVec 32 := 0#32
  let c16_i32_144 : BitVec 32 := 16#32
  let v425 : BitVec 32 := Scalar.subi c16_i32_144 v421
  let c8_i32 : BitVec 32 := 8#32
  let v426 : BitVec 32 := Scalar.muli v425 c8_i32
  let c0_i32_145 : BitVec 32 := 0#32
  let v427 : BitVec 32 := Scalar.subi v426 c0_i32_145
  let c1_i32_146 : BitVec 32 := 1#32
  let c1_i32_147 : BitVec 32 := 1#32
  let v428 : BitVec 32 := Scalar.subi c1_i32_146 c1_i32_147
  let v429 : BitVec 32 := Scalar.addi v427 v428
  let c1_i32_148 : BitVec 32 := 1#32
  let v430 : BitVec 32 := Scalar.divsi v429 c1_i32_148
  let v431 : BitVec 32 := Scalar.subi v430 c0_i32_151
  let c1_i32_152 : BitVec 32 := 1#32
  let v433 : BitVec 32 := Scalar.divsi v431 c1_i32_152
  let v434 : BitVec 32 := Scalar.muli v433 c1_i32_152
  let v435 : BitVec 32 := Scalar.addi c0_i32_151 v434
  let c1_i32_153 : BitVec 32 := 1#32
  ⟨c0_i32_151, v435, c1_i32_153⟩

@[reducible] def k0_t4_loop (v421 : BitVec 32) : Scf.Loop 32 :=
  let c0_i32_151 : BitVec 32 := 0#32
  let c16_i32_144 : BitVec 32 := 16#32
  let v425 : BitVec 32 := Scalar.subi c16_i32_144 v421
  let c8_i32 : BitVec 32 := 8#32
  let v426 : BitVec 32 := Scalar.muli v425 c8_i32
  let c0_i32_145 : BitVec 32 := 0#32
  let v427 : BitVec 32 := Scalar.subi v426 c0_i32_145
  let c1_i32_146 : BitVec 32 := 1#32
  let c1_i32_147 : BitVec 32 := 1#32
  let v428 : BitVec 32 := Scalar.subi c1_i32_146 c1_i32_147
  let v429 : BitVec 32 := Scalar.addi v427 v428
  let c1_i32_148 : BitVec 32 := 1#32
  let v430 : BitVec 32 := Scalar.divsi v429 c1_i32_148
  let v431 : BitVec 32 := Scalar.subi v430 c0_i32_151
  let c1_i32_152 : BitVec 32 := 1#32
  let v433 : BitVec 32 := Scalar.divsi v431 c1_i32_152
  let v434 : BitVec 32 := Scalar.muli v433 c1_i32_152
  let v435 : BitVec 32 := Scalar.addi c0_i32_151 v434
  let v432 : BitVec 32 := Scalar.addi c0_i32_151 v431
  let c1_i32_154 : BitVec 32 := 1#32
  ⟨v435, v432, c1_i32_154⟩

def k0_chk1 (v421 : BitVec 32) : Prop :=
  ((k0_t3_loop v421).OK) ∧
  ((k0_t4_loop v421).OK)
theorem k0_t3_ok : ∀ (v421 : BitVec 32) (k0_hw1 : k0_chk1 v421), (k0_t3_loop v421).OK := fun v421 k0_hw1 => k0_hw1.1
theorem k0_t4_ok : ∀ (v421 : BitVec 32) (k0_hw1 : k0_chk1 v421), (k0_t4_loop v421).OK := fun v421 k0_hw1 => k0_hw1.2
-- ==== ReferenceIdeal.lean ====
abbrev S256x2048 : Shape := ⟨2, ![256, 2048]⟩
abbrev S256x32 : Shape := ⟨2, ![256, 32]⟩
abbrev S17 : Shape := ⟨1, ![17]⟩
abbrev S16x2048x2048 : Shape := ⟨3, ![16, 2048, 2048]⟩
abbrev S16 : Shape := ⟨1, ![16]⟩
abbrev S256x32x64 : Shape := ⟨3, ![256, 32, 64]⟩
abbrev S256x32x1 : Shape := ⟨3, ![256, 32, 1]⟩
abbrev S256x1 : Shape := ⟨2, ![256, 1]⟩
abbrev S1 : Shape := ⟨1, ![1]⟩
abbrev S2048x2048 : Shape := ⟨2, ![2048, 2048]⟩
abbrev S1x2048x2048 : Shape := ⟨3, ![1, 2048, 2048]⟩

abbrev nBuf : Space → Nat
  | .hbm => 5
  | .vmem => 3
  | .smem => 2
  | _ => 0

abbrev bufTy : (tb : Table) → Fin (tcTables nBuf tb) → BufTy
  | .hbm, ⟨0, _⟩ => ⟨S256x2048, .fp8e4m3⟩
  | .hbm, ⟨1, _⟩ => ⟨S256x32, .f32⟩
  | .hbm, ⟨2, _⟩ => ⟨S17, .i32⟩
  | .hbm, ⟨3, _⟩ => ⟨S16x2048x2048, .f32⟩
  | .hbm, ⟨4, _⟩ => ⟨S16, .i32⟩
  | .local _ .vmem, ⟨0, _⟩ => ⟨S256x2048, .fp8e4m3⟩
  | .local _ .vmem, ⟨1, _⟩ => ⟨S256x32, .f32⟩
  | .local _ .vmem, ⟨2, _⟩ => ⟨S16x2048x2048, .f32⟩
  | .local _ .smem, ⟨0, _⟩ => ⟨S17, .i32⟩
  | .local _ .smem, ⟨1, _⟩ => ⟨S16, .i32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_off1 (k0_t1 : Fin k0_t1_loop.trips) : Fin 1 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v11 : BitVec 32 := Scalar.muli arg5 c1_i32_4
  let v12 : BitVec 32 := Scalar.addi c0_i32_5 v11
  let v13 : Index := Scalar.indexCast v12
  ![v13.toNat]
def k0_off2 (k0_t1 : Fin k0_t1_loop.trips) : Fin 1 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v11 : BitVec 32 := Scalar.muli arg5 c1_i32_4
  let v12 : BitVec 32 := Scalar.addi c0_i32_5 v11
  let c1_i32_6 : BitVec 32 := 1#32
  let v17 : BitVec 32 := Scalar.addi v12 c1_i32_6
  let v18 : Index := Scalar.indexCast v17
  ![v18.toNat]
def k0_off3 (k0_t1 : Fin k0_t1_loop.trips) : Fin 3 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v11 : BitVec 32 := Scalar.muli arg5 c1_i32_4
  let v12 : BitVec 32 := Scalar.addi c0_i32_5 v11
  let v28 : Index := Scalar.indexCast v12
  let c0_8 : Index := 0#32
  let c0_9 : Index := 0#32
  ![v28.toNat, 0, 0]
def k0_off4 (k0_t1 : Fin k0_t1_loop.trips) : Fin 1 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v11 : BitVec 32 := Scalar.muli arg5 c1_i32_4
  let v12 : BitVec 32 := Scalar.addi c0_i32_5 v11
  let v38 : Index := Scalar.indexCast v12
  ![v38.toNat]
abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Win.lean ====
/-
  The windows of the result `H` (f32[16, 2048, 2048]): window `(e, c)` is rows `256 c … 256 c + 255` of expert `e`. The
  kernel's transfers land one window each; the sixteen experts' eight windows are the array, and no two meet.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.Routed
public import Idealize.ShloMosaic.Lib.Batch
public import Idealize.ShloMosaic.Lib.Ring
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UC sig nD τ) ℕ

/-! ## A window -/

/-- The window of `H` at offsets `off`, as the kernel spells it: the block sliced out and squeezed to its two axes. -/
def hwin (off : Fin 3 → ℕ) (inb : ∀ a, off a + S1x256x2048.size a ≤ S16x2048x2048.size a) : Memref sig .tc .hbm S256x2048 .f32 :=
  ((Memref.whole main_v0_0).slice (Rect.unit (s := S16x2048x2048) off S1x256x2048.size inb) (fun _ => rfl)).squeeze S256x2048 squeezes_S1x256x2048_S256x2048

/-- The elements of window `(e, c)`. -/
def W (e c : ℕ) : Finset S16x2048x2048.Idx := Finset.univ.filter fun y => (y 0).val = e ∧ (y 1).val / 256 = c

theorem mem_W {e c : ℕ} {y : S16x2048x2048.Idx} : y ∈ W e c ↔ (y 0).val = e ∧ (y 1).val / 256 = c := by
  simp [W]

theorem hwin_set (off : Fin 3 → ℕ) (inb : ∀ a, off a + S1x256x2048.size a ≤ S16x2048x2048.size a) {e c : ℕ}
    (h : off = ![e, 256 * c, 0]) : (hwin off inb).view.set = W e c := by
  subst h
  refine ((View.set_reshape _ _).trans (View.set_slice_whole _ _)).trans ?_
  ext y
  rw [Rect.mem_set_unit, mem_W]
  constructor
  · intro H
    have h0 := H 0; have h1 := H 1
    change e ≤ (y 0).val ∧ (y 0).val < e + 1 at h0
    change 256 * c ≤ (y 1).val ∧ (y 1).val < 256 * c + 256 at h1
    omega
  · rintro ⟨h0, h1⟩ a
    have h2 : (y 2).val < 2048 := (y 2).isLt
    fin_cases a
    · change e ≤ (y 0).val ∧ (y 0).val < e + 1; omega
    · change 256 * c ≤ (y 1).val ∧ (y 1).val < 256 * c + 256; omega
    · change 0 ≤ (y 2).val ∧ (y 2).val < 0 + 2048; omega

/-- The window held by its memref's elements. -/
theorem hwin_eq (c : Dev nD) (off : Fin 3 → ℕ) (inb : ∀ a, off a + S1x256x2048.size a ≤ S16x2048x2048.size a) {e k : ℕ}
    (h : off = ![e, 256 * k, 0]) (f : S16x2048x2048.Idx → Elt F .f32) :
    ((c : Thread nD τ).loc main_v0_0 ↦[W e k]{fullShare} f : sProp 𝕄)
      = ((hwin off inb).view.loc (c : Thread nD τ) ↦[(hwin off inb).view.set]{fullShare} f) := by
  rw [hwin_set off inb h]; rfl

/-- The index of `H`'s element `y` inside its window. -/
def inW (y : S16x2048x2048.Idx) : S256x2048.Idx :=
  fun a => match a with
    | ⟨0, _⟩ => ⟨(y 1).val % 256, Nat.mod_lt _ (by decide)⟩
    | ⟨1, _⟩ => ⟨(y 2).val, (y 2).isLt⟩

theorem hwin_emb (off : Fin 3 → ℕ) (inb : ∀ a, off a + S1x256x2048.size a ≤ S16x2048x2048.size a) {e c : ℕ}
    (h : off = ![e, 256 * c, 0]) {y : S16x2048x2048.Idx} (hy : y ∈ W e c) : (hwin off inb).view.emb (inW y) = y := by
  subst h
  rw [mem_W] at hy
  funext a
  refine Fin.ext ?_
  have hr : Shape.reshapeEquiv (squeezes_S1x256x2048_S256x2048.numel_eq) (inW y)
      = (Fin.cons (⟨0, Nat.one_pos⟩ : Fin 1) (inW y) : S1x256x2048.Idx) := Shape.reshapeEquiv_cons_one _ _
  change ((Rect.unit (s := S16x2048x2048) ![e, 256 * c, 0] S1x256x2048.size inb).emb
    (Shape.reshapeEquiv (squeezes_S1x256x2048_S256x2048.numel_eq) (inW y)) a).val = _
  rw [hr]
  fin_cases a
  · change e + 1 * 0 = (y 0).val; omega
  · change 256 * c + 1 * ((y 1).val % 256) = (y 1).val; omega
  · change 0 + 1 * (y 2).val = (y 2).val; omega

/-- A payload landed in the window: at `y`, the payload's element at `y`'s place in the window. -/
theorem hwin_write (off : Fin 3 → ℕ) (inb : ∀ a, off a + S1x256x2048.size a ≤ S16x2048x2048.size a) {e c : ℕ}
    (h : off = ![e, 256 * c, 0]) {y : S16x2048x2048.Idx} (hy : y ∈ W e c) (f : S16x2048x2048.Idx → Elt F .f32)
    (w : S256x2048.Idx → Elt F .f32) : (hwin off inb).view.write (Elt F) f w Finset.univ y = w (inW y) := by
  have := (hwin off inb).view.write_emb_of_mem (Val := Elt F) f w (M := Finset.univ) (x := inW y) (Finset.mem_univ _)
  rw [hwin_emb off inb h hy] at this
  exact this

/-! ## The array as its windows -/

/-- `H` held at the elements of window `(e, c)`. -/
abbrev hW (c : Dev nD) (f : S16x2048x2048.Idx → Elt F .f32) (e k : ℕ) : sProp 𝕄 :=
  (c : Thread nD τ).loc main_v0_0 ↦[W e k]{fullShare} f

/-- Expert `e`'s eight windows. -/
abbrev hE (c : Dev nD) (f : S16x2048x2048.Idx → Elt F .f32) (e : ℕ) : sProp 𝕄 :=
  bigSep (Finset.range 8) (hW c f e)

theorem W_disjoint {e c e' c' : ℕ} (h : ¬ (e = e' ∧ c = c')) : Disjoint (W e c) (W e' c') := by
  rw [Finset.disjoint_left]
  intro y h1 h2
  rw [mem_W] at h1 h2
  omega

/-- `H` whole is its sixteen experts, eight windows each. -/
theorem h_windows (c : Dev nD) (f : S16x2048x2048.Idx → Elt F .f32) :
    ((c : Thread nD τ).loc main_v0_0 ↦{fullShare} f : sProp 𝕄) = bigSep (Finset.range 16) (hE c f) := by
  have hcov : (Finset.univ : Finset S16x2048x2048.Idx) = (Finset.range 16).biUnion fun e => (Finset.range 8).biUnion fun k => W e k := by
    ext y
    simp only [Finset.mem_univ, Finset.mem_biUnion, Finset.mem_range, mem_W, true_iff]
    have h0 : (y 0).val < 16 := (y 0).isLt
    have h1 : (y 1).val < 2048 := (y 1).isLt
    exact ⟨(y 0).val, h0, (y 1).val / 256, by omega, rfl, rfl⟩
  change ((c : Thread nD τ).loc main_v0_0 ↦[(Finset.univ : Finset S16x2048x2048.Idx)]{fullShare} f : sProp 𝕄) = _
  rw [hcov]
  refine (pointsTo_biUnion (ℓ := (c : Thread nD τ).loc main_v0_0) (Finset.range 16) _ ?_).trans (bigSep_congr fun e _ => ?_)
  · intro e _ e' _ hne
    rw [Finset.disjoint_biUnion_left]; intro k _
    rw [Finset.disjoint_biUnion_right]; intro k' _
    exact W_disjoint fun h => hne h.1
  · exact pointsTo_biUnion (ℓ := (c : Thread nD τ).loc main_v0_0) (Finset.range 8) (fun k => W e k) fun k _ k' _ hne => W_disjoint fun h => hne h.2

/-- A window may be held at any contents that agree on it. -/
theorem hW_congr (c : Dev nD) {f g : S16x2048x2048.Idx → Elt F .f32} {e k : ℕ} (h : ∀ y ∈ W e k, f y = g y) :
    hW c f e k = hW c g e k := pointsTo_congr (ℓ := (c : Thread nD τ).loc main_v0_0) h

/-! ## Words of scalar memory and the guards read off them -/

/-- Word `n` of the offsets. -/
def offAt (o : S17.Idx → BitVec 32) (n : ℕ) : BitVec 32 := if h : n < 17 then o (fun | ⟨0, _⟩ => ⟨n, h⟩) else 0

/-- The offsets in the kernel's scalar memory. -/
abbrev offsMem (c : Dev nD) (o : S17.Idx → Elt F .i32) : sProp 𝕄 :=
  (c : Thread nD τ).loc cc0_scratch0 ↦{fullShare} o

/-- A word of the offsets loaded. -/
theorem offs_load (𝒱 : Variants) (c : Dev nD) (o : S17.Idx → Elt F .i32) {α : Type} {Q : α → sProp 𝕄} {n : ℕ} (off : Fin 1 → ℕ)
    (inb : ∀ a, off a + S1.size a ≤ S17.size a) (hoff : off = ![n])
    {h1 : (Rect.unit (s := S17) off S1.size inb).shape.numel = 1} {hp : EltTy.packing .i32 = 1}
    {K : Elt F .i32 → Prog (TpuEff nD τ sig (Elt F) Λ₀ .tc) α} :
    offsMem c o ⊢ iprop((offsMem c o -∗ wp frame (wpE defs₀ 𝒱 (c : Thread nD τ) none) Set.univ (K (offAt o n)) Q)
      -∗ wp frame (wpE defs₀ 𝒱 (c : Thread nD τ) none) Set.univ
          ((smemLoad (Memref.whole cc0_scratch0) (Rect.unit (s := S17) off S1.size inb) h1 hp) >>= K) Q) := by
  subst hoff
  have hn : n < 17 := by have := inb 0; change n + 1 ≤ 17 at this; omega
  simp only [smemLoad, smemLoadElt, Prog.bind_op, Prog.bind_ret]
  have hval : ∀ x, (Memref.whole cc0_scratch0 : Memref sig .tc .smem S17 .i32).view.readAt (Elt F) (Rect.unit (s := S17) ![n] S1.size inb).toLoadRect o x = offAt o n := by
    intro x
    unfold offAt
    rw [dif_pos hn]
    refine congrArg o ?_
    funext a
    refine Fin.ext ?_
    have hx : (x 0).val < 1 := (x 0).isLt
    fin_cases a
    change n + 1 * (x 0).val = n
    omega
  iintro HO Hk
  iapply (wp_load 𝒱 (c : Thread nD τ) none Set.univ (m := (Memref.whole cc0_scratch0 : Memref sig .tc .smem S17 .i32))
    (r := (Rect.unit (s := S17) ![n] S1.size inb).toLoadRect) (S := Finset.univ) (q := fullShare) (f := o) (Finset.subset_univ _)) $$ HO
  iintro HO
  rw [hval]
  iapply Hk
  iexact HO

/-- A guard "`a` above `b`", as the kernel spells it. -/
theorem guard_sgt (a b : BitVec 32) : (Scalar.cmpi .ne (Scalar.extui (Scalar.cmpi .sgt a b)) 0#32 = 1#1) ↔ b.slt a = true := by
  show (BitVec.ofBool ((BitVec.ofBool (b.slt a)).setWidth 32 != 0#32) = 1#1) ↔ _
  cases b.slt a <;> decide

/-- A guard "`a` at most `b`", as the kernel spells it. -/
theorem guard_sle (a b : BitVec 32) : (Scalar.cmpi .ne (Scalar.extui (Scalar.cmpi .sle a b)) 0#32 = 1#1) ↔ b.slt a = false := by
  have h : a.sle b = !b.slt a := by simp [BitVec.sle, BitVec.slt, ← decide_not]
  show (BitVec.ofBool ((BitVec.ofBool (a.sle b)).setWidth 32 != 0#32) = 1#1) ↔ _
  rw [h]
  cases b.slt a <;> decide

end Cert.Proof.KernelIdeal

end
-- ==== Proof.KernelIdeal.T1.lean ====
/-
  The zero fill: one trip of the first loop issues, for an expert with no rows, eight transfers of the zero block.
-/
module

public import proofs.«01_k».proof.Proof.KernelIdeal.Win
public import Idealize.SL.BI.BigOpNat

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The counters the transfers' ledgers are kept in. -/
abbrev EC : UEmb Counters 𝕄 := countersEmb (U := Pipeline.UC sig nD τ)

/-! ## The experts that have no rows -/

/-- Expert `e` has rows: its first row comes before its end. -/
def busy (o : S17.Idx → BitVec 32) (e : ℕ) : Bool := (offAt o e).slt (offAt o (e + 1))

/-- How many of the experts before `k` have no rows. -/
def idle (o : S17.Idx → BitVec 32) : ℕ → ℕ
  | 0 => 0
  | k + 1 => idle o k + if busy o k = false then 1 else 0

theorem idle_zero (o : S17.Idx → BitVec 32) : idle o 0 = 0 := rfl
theorem idle_of_idle (o : S17.Idx → BitVec 32) {k : ℕ} (h : busy o k = false) : idle o (k + 1) = idle o k + 1 := by
  simp only [idle, h, ↓reduceIte]
theorem idle_of_busy (o : S17.Idx → BitVec 32) {k : ℕ} (h : busy o k = true) : idle o (k + 1) = idle o k := by
  simp [idle, h]

theorem idle_le (o : S17.Idx → BitVec 32) (k : ℕ) : idle o k ≤ k := by
  induction k with
  | zero => exact le_rfl
  | succ k ih => simp only [idle]; split <;> omega

theorem idle_mono (o : S17.Idx → BitVec 32) {j k : ℕ} (h : j ≤ k) : idle o j ≤ idle o k := by
  induction h with
  | refl => exact le_rfl
  | step _ ih => exact ih.trans (by simp only [idle]; omega)

/-- The expert with no rows that `i` such experts come before. -/
def idleAt (o : S17.Idx → BitVec 32) (i : ℕ) : ℕ := by
  classical exact if h : ∃ k, idle o k = i ∧ busy o k = false then Classical.choose h else 0

theorem idleAt_idle (o : S17.Idx → BitVec 32) {k : ℕ} (h : busy o k = false) : idleAt o (idle o k) = k := by
  classical
  have hx : ∃ j, idle o j = idle o k ∧ busy o j = false := ⟨k, rfl, h⟩
  unfold idleAt
  rw [dif_pos hx]
  obtain ⟨h1, h2⟩ := Classical.choose_spec hx
  generalize Classical.choose hx = j at h1 h2
  rcases Nat.lt_trichotomy j k with hl | hl | hl
  · have := idle_mono o (show j + 1 ≤ k from hl); simp only [idle, h2] at this; simp at this; omega
  · exact hl
  · have := idle_mono o (show k + 1 ≤ j from hl); simp only [idle, h] at this; simp at this; omega

/-! ## The zero block's read tokens and the batch -/

/-- One window's credit on a transfer semaphore. -/
abbrev NN : ℕ := 65536

theorem hwin_amount (off : Fin 3 → ℕ) (inb : ∀ a, off a + S1x256x2048.size a ≤ S16x2048x2048.size a) (sm : DmaSem sig) :
    (hwin off inb).view.amount (.dma sm) = NN := by
  show RefSig.tileCredit S256x2048 .f32 = NN
  decide +kernel

/-- The zero block under read token `t`. -/
abbrev zTok (c : Dev nD) (z : S256x2048.Idx → Elt F .f32) (t : ℕ) : sProp 𝕄 :=
  (Memref.whole cc0_scratch6).view.loc (c : Thread nD τ) ↦[(Memref.whole cc0_scratch6).view.set]{Transfers.shareTokN fullShare t} z

/-- What transfer `j` of the zero fill delivers: window `j % 8` of the `j / 8`-th expert with no rows at `G`, and its
    read token. -/
def zDel (c : Dev nD) (o : S17.Idx → BitVec 32) (z : S256x2048.Idx → Elt F .f32) (G : S16x2048x2048.Idx → Elt F .f32) (j : ℕ) : sProp 𝕄 :=
  iprop(hW c G (idleAt o (j / 8)) (j % 8) ∗ zTok c z j)

instance zDel_storable (c : Dev nD) (o : S17.Idx → BitVec 32) (z : S256x2048.Idx → Elt F .f32) (G : S16x2048x2048.Idx → Elt F .f32) (j : ℕ) :
    BI.Storable (upEmb : UEmb _ 𝕄) (zDel c o z G j) := by
  unfold zDel; infer_instance

/-- The zero fill's batch, `j` issued and `u` units consumed. -/
abbrev zBatch (c : Dev nD) (o : S17.Idx → BitVec 32) (z : S256x2048.Idx → Elt F .f32) (G : S16x2048x2048.Idx → Elt F .f32) (j u : ℕ) : sProp 𝕄 :=
  Transfers.Batch (EC (F := F)) (c : Thread nD τ) (.dma 4) () NN (fun t : Fin (8 * idle o 16) => zDel c o z G t.val) j u

/-- One issue of the zero fill: window `(e, k)` of an expert with no rows. -/
theorem zero_issue (𝒱 : Variants) (c : Dev nD) (o : S17.Idx → BitVec 32) (z : S256x2048.Idx → Elt F .f32) (G f : S16x2048x2048.Idx → Elt F .f32)
    {α : Type} {Q : α → sProp 𝕄} {e k : ℕ} (he : e < 16) (hb : busy o e = false) (hk : k < 8)
    (hG : ∀ y ∈ W e k, G y = z (inW y))
    (off : Fin 3 → ℕ) (inb : ∀ a, off a + S1x256x2048.size a ≤ S16x2048x2048.size a) (hoff : off = ![e, 256 * k, 0])
    {hsrc : (Memref.whole cc0_scratch6 : Memref sig .tc .vmem S256x2048 .f32).view.WordExact} {hdst : (hwin off inb).view.WordExact}
    {hsem : (DmaTarget.here (nD := nD) (τ := τ) (p := .tc) (hwin off inb)).Typed cc0_scratch6.space (.dma 4)}
    {K : PUnit → Prog (TpuEff nD τ sig (Elt F) Λ₀ .tc) α} :
    iprop(zTok c z (8 * idle o e + k) ∗ hW c f e k ∗ zBatch c o z G (8 * idle o e + k) 0)
      ⊢ iprop((zBatch c o z G (8 * idle o e + (k + 1)) 0 -∗ wp frame (wpE defs₀ 𝒱 (c : Thread nD τ) none) Set.univ (K ⟨⟩) Q)
          -∗ wp frame (wpE defs₀ 𝒱 (c : Thread nD τ) none) Set.univ
            (Prog.lift (.enqueueDma (Memref.whole cc0_scratch6) (.here (hwin off inb)) (.dma 4) hsrc hdst hsem) >>= K) Q) := by
  have hlt : 8 * idle o e + k < 8 * idle o 16 := by
    have h2 := idle_mono o (show e + 1 ≤ 16 by omega)
    rw [idle_of_idle o hb] at h2; omega
  rw [show hW c f e k = _ from hwin_eq c off inb hoff f]
  refine Transfers.wp_dmaBatch (EC (F := F)) 𝒱 (c : Thread nD τ) none (src := Memref.whole cc0_scratch6) (dst := hwin off inb)
    (q := Transfers.shareTokN fullShare (8 * idle o e + k)) (fs := z) (Sd := (hwin off inb).view.set) (fd := f) () NN (hwin_amount off inb 4)
    subset_rfl hlt (Nat.zero_le _) ?_
  have hd : zDel c o z G (8 * idle o e + k) = iprop(hW c G e k ∗ zTok c z (8 * idle o e + k)) := by
    unfold zDel
    rw [show (8 * idle o e + k) / 8 = idle o e by omega, show (8 * idle o e + k) % 8 = k by omega, idleAt_idle o hb]
  refine .trans ?_ (Entails.of_eq hd.symm)
  refine sep_mono ?_ .rfl
  refine .trans (Entails.of_eq (hwin_eq c off inb hoff _).symm) (Entails.of_eq (hW_congr c fun y hy => ?_))
  exact (hwin_write off inb hoff hy f _).trans (hG y hy).symm

/-! ## The loop -/

theorem bigSep_range8 (Φ : ℕ → sProp 𝕄) :
    bigSep (Finset.range 8) Φ = iprop(Φ 0 ∗ Φ 1 ∗ Φ 2 ∗ Φ 3 ∗ Φ 4 ∗ Φ 5 ∗ Φ 6 ∗ Φ 7) := by
  rw [Finset.range_eq_Ico]
  iterate 7 rw [bigSep_Ico_succ_bot (by decide)]
  rw [show (8 : ℕ) = 7 + 1 from rfl, bigSep_Ico_one]

/-- The next eight of a range. -/
theorem bigSep_Ico8 {a b : ℕ} (h : a + 8 ≤ b) (Φ : ℕ → sProp 𝕄) :
    bigSep (Finset.Ico a b) Φ = iprop(Φ a ∗ Φ (a + 1) ∗ Φ (a + 2) ∗ Φ (a + 3) ∗ Φ (a + 4) ∗ Φ (a + 5) ∗ Φ (a + 6) ∗ Φ (a + 7)
      ∗ bigSep (Finset.Ico (a + 8) b) Φ) := by
  iterate 8 rw [bigSep_Ico_succ_bot (by omega)]

/-- Before trip `k` of the zero fill: the transfers of the experts with no rows before `k` issued, the windows of those
    from `k` on still in hand, and the read tokens not yet spent. -/
def t1Inv (c : Dev nD) (o : S17.Idx → Elt F .i32) (z : S256x2048.Idx → Elt F .f32) (G f : S16x2048x2048.Idx → Elt F .f32) (k : ℕ) (_ : Unit) : sProp 𝕄 :=
  iprop(offsMem c o ∗ zBatch c o z G (8 * idle o k) 0
    ∗ bigSep (Finset.Ico k 16) (fun e => if busy o e = true then iprop(emp) else hE c f e)
    ∗ bigSep (Finset.Ico (8 * idle o k) 128) (zTok c z))

theorem t1_trips : k0_t1_loop.trips = 16 := by decide +kernel

theorem t1_step (𝒱 : Variants) (c : Dev nD) (o : S17.Idx → Elt F .i32) (z : S256x2048.Idx → Elt F .f32) (G f : S16x2048x2048.Idx → Elt F .f32)
    (hG : ∀ e k, busy o e = false → ∀ y ∈ W e k, G y = z (inW y))
    (k : Fin k0_t1_loop.trips) (acc : Unit) :
    t1Inv c o z G f k acc ⊢ wp frame (wpE defs₀ 𝒱 (c : Thread nD τ) none) Set.univ
      (k0_t1_body (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc)
      (t1Inv c o z G f (k.val + 1)) := by
  have hk : k.val < 16 := t1_trips ▸ k.isLt
  unfold t1Inv
  rw [bigSep_Ico_succ_bot hk]
  iintro ⟨HO, HB, ⟨He, Hh⟩, Hz⟩
  unfold k0_t1_body
  iapply (offs_load 𝒱 c o _ _ (k0_off1_eq k)) $$ HO
  iintro HO
  iapply (offs_load 𝒱 c o _ _ (k0_off2_eq k)) $$ HO
  iintro HO
  by_cases hb : busy o k.val = true
  · ihave He := (Entails.of_eq (if_pos hb)) $$ He
    have hg : ¬ (Scalar.cmpi .ne (Scalar.extui (Scalar.cmpi .sle (offAt o (k.val + 1)) (offAt o k.val))) 0#32 = 1#1) := by
      rw [guard_sle]; exact fun h => absurd (show busy o k.val = false from h) (by rw [hb]; decide)
    dsimp only
    rw [if_neg hg, idle_of_busy o hb]
    sl_step
    isplitl [HO]; · iexact HO
    isplitl [HB]; · iexact HB
    isplitl [Hh]; · iexact Hh
    iexact Hz
  have hb' : busy o k.val = false := by simpa using hb
  dsimp only
  rw [if_pos ((guard_sle _ _).mpr hb'), idle_of_idle o hb']
  have hi := idle_le o k.val
  have hlt : 8 * idle o k.val + 8 ≤ 128 := by omega
  rw [show 8 * (idle o k.val + 1) = 8 * idle o k.val + 8 by omega]
  ihave He := (Entails.of_eq (if_neg hb)) $$ He
  ihave He := (Entails.of_eq (bigSep_range8 (hW c f k.val))) $$ He
  ihave Hz := (Entails.of_eq (bigSep_Ico8 hlt (zTok c z))) $$ Hz
  icases He with ⟨H0, H1, H2, H3, H4, H5, H6, H7⟩
  icases Hz with ⟨Z0, Z1, Z2, Z3, Z4, Z5, Z6, Z7, Hz⟩
  iapply (zero_issue 𝒱 c o z G f hk hb' (k := 0) (by decide) (hG _ _ hb') _ _ (k0_off3_eq k)) $$ [H0 Z0 HB]
  · isplitl [Z0]; · iexact Z0
    isplitl [H0]; · iexact H0
    iexact HB
  iintro HB
  iapply (zero_issue 𝒱 c o z G f hk hb' (k := 1) (by decide) (hG _ _ hb') _ _ (k0_off4_eq k)) $$ [H1 Z1 HB]
  · isplitl [Z1]; · iexact Z1
    isplitl [H1]; · iexact H1
    iexact HB
  iintro HB
  iapply (zero_issue 𝒱 c o z G f hk hb' (k := 2) (by decide) (hG _ _ hb') _ _ (k0_off5_eq k)) $$ [H2 Z2 HB]
  · isplitl [Z2]; · iexact Z2
    isplitl [H2]; · iexact H2
    iexact HB
  iintro HB
  iapply (zero_issue 𝒱 c o z G f hk hb' (k := 3) (by decide) (hG _ _ hb') _ _ (k0_off6_eq k)) $$ [H3 Z3 HB]
  · isplitl [Z3]; · iexact Z3
    isplitl [H3]; · iexact H3
    iexact HB
  iintro HB
  iapply (zero_issue 𝒱 c o z G f hk hb' (k := 4) (by decide) (hG _ _ hb') _ _ (k0_off7_eq k)) $$ [H4 Z4 HB]
  · isplitl [Z4]; · iexact Z4
    isplitl [H4]; · iexact H4
    iexact HB
  iintro HB
  iapply (zero_issue 𝒱 c o z G f hk hb' (k := 5) (by decide) (hG _ _ hb') _ _ (k0_off8_eq k)) $$ [H5 Z5 HB]
  · isplitl [Z5]; · iexact Z5
    isplitl [H5]; · iexact H5
    iexact HB
  iintro HB
  iapply (zero_issue 𝒱 c o z G f hk hb' (k := 6) (by decide) (hG _ _ hb') _ _ (k0_off9_eq k)) $$ [H6 Z6 HB]
  · isplitl [Z6]; · iexact Z6
    isplitl [H6]; · iexact H6
    iexact HB
  iintro HB
  iapply (zero_issue 𝒱 c o z G f hk hb' (k := 7) (by decide) (hG _ _ hb') _ _ (k0_off10_eq k)) $$ [H7 Z7 HB]
  · isplitl [Z7]; · iexact Z7
    isplitl [H7]; · iexact H7
    iexact HB
  iintro HB
  sl_step
  isplitl [HO]; · iexact HO
  isplitl [HB]; · iexact HB
  isplitl [Hh]; · iexact Hh
  iexact Hz

end Cert.Proof.KernelIdeal

end
-- ==== Proof.KernelIdeal.Slot.lean ====
/-
  The eight slots of the kernel's ring of products (f32[8, 256, 2048]): slot `i` is filled with one window's product and
  leaves for `H` in one transfer on the slot's own semaphore. What a slot is between two operations, and one rule for each
  operation on it: the wait for the transfer before, the store of a product, the issue of its transfer.
-/
module

public import proofs.«01_k».proof.Proof.KernelIdeal.T1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## A slot's elements -/

/-- The ring's block at offsets `off`. -/
abbrev slotRect (off : Fin 3 → ℕ) (inb : ∀ a, off a + S1x256x2048.size a ≤ S8x256x2048.size a) : Rect S8x256x2048 :=
  Rect.unit (s := S8x256x2048) off S1x256x2048.size inb

/-- The ring's slot at offsets `off`, as the kernel spells it. -/
def slotM (off : Fin 3 → ℕ) (inb : ∀ a, off a + S1x256x2048.size a ≤ S8x256x2048.size a) : Memref sig .tc .vmem S256x2048 .f32 :=
  ((Memref.whole cc0_scratch7).slice (slotRect off inb) (fun _ => rfl)).squeeze S256x2048 squeezes_S1x256x2048_S256x2048

/-- The elements of slot `i`. -/
def slotSet (i : ℕ) : Finset S8x256x2048.Idx := Finset.univ.filter fun y => (y 0).val = i

theorem slotRect_set (off : Fin 3 → ℕ) (inb : ∀ a, off a + S1x256x2048.size a ≤ S8x256x2048.size a) {i : ℕ}
    (h : off = ![i, 0, 0]) : ((Memref.whole cc0_scratch7).access (slotRect off inb)).set = slotSet i := by
  subst h
  refine (View.set_slice_whole _ _).trans ?_
  ext y
  rw [Rect.mem_set_unit, slotSet, Finset.mem_filter]
  constructor
  · intro H
    have h0 := H 0
    change i ≤ (y 0).val ∧ (y 0).val < i + 1 at h0
    exact ⟨Finset.mem_univ _, by omega⟩
  · rintro ⟨-, h0⟩ a
    have h1 : (y 1).val < 256 := (y 1).isLt
    have h2 : (y 2).val < 2048 := (y 2).isLt
    fin_cases a
    · change i ≤ (y 0).val ∧ (y 0).val < i + 1; omega
    · change 0 ≤ (y 1).val ∧ (y 1).val < 0 + 256; omega
    · change 0 ≤ (y 2).val ∧ (y 2).val < 0 + 2048; omega

theorem slotM_set (off : Fin 3 → ℕ) (inb : ∀ a, off a + S1x256x2048.size a ≤ S8x256x2048.size a) {i : ℕ}
    (h : off = ![i, 0, 0]) : (slotM off inb).view.set = slotSet i :=
  (View.set_reshape _ _).trans (slotRect_set off inb h)

/-- Slot `i`'s elements held at the contents `f` of the ring. -/
abbrev slotPt (c : Dev nD) (i : ℕ) (f : S8x256x2048.Idx → Elt F .f32) : sProp 𝕄 :=
  (c : Thread nD τ).loc cc0_scratch7 ↦[slotSet i]{fullShare} f

theorem slotM_eq (c : Dev nD) (off : Fin 3 → ℕ) (inb : ∀ a, off a + S1x256x2048.size a ≤ S8x256x2048.size a) {i : ℕ}
    (h : off = ![i, 0, 0]) (f : S8x256x2048.Idx → Elt F .f32) :
    (slotPt c i f : sProp 𝕄) = ((slotM off inb).view.loc (c : Thread nD τ) ↦[(slotM off inb).view.set]{fullShare} f) := by
  rw [slotM_set off inb h]; rfl

theorem slotRect_eq (c : Dev nD) (off : Fin 3 → ℕ) (inb : ∀ a, off a + S1x256x2048.size a ≤ S8x256x2048.size a) {i : ℕ}
    (h : off = ![i, 0, 0]) (f : S8x256x2048.Idx → Elt F .f32) :
    (slotPt c i f : sProp 𝕄) = (((Memref.whole cc0_scratch7).access (slotRect off inb)).loc (c : Thread nD τ)
      ↦[((Memref.whole cc0_scratch7).access (slotRect off inb)).set]{fullShare} f) := by
  rw [slotRect_set off inb h]

theorem slotSet_disjoint (i j : Fin 8) (h : i ≠ j) : Disjoint (slotSet i.val) (slotSet j.val) := by
  rw [Finset.disjoint_left]
  intro y h1 h2
  simp only [slotSet, Finset.mem_filter, Finset.mem_univ, true_and] at h1 h2
  exact h (Fin.ext (h1.symm.trans h2))

theorem slotSet_cover : (Finset.univ : Finset (Fin 8)).biUnion (fun i => slotSet i.val) = Finset.univ := by
  ext y
  simp only [Finset.mem_univ, Finset.mem_biUnion, slotSet, Finset.mem_filter, iff_true, true_and]
  exact ⟨⟨(y 0).val, (y 0).isLt⟩, rfl⟩

/-- The ring whole is its eight slots. -/
theorem ring_slots (c : Dev nD) (f : S8x256x2048.Idx → Elt F .f32) :
    ((c : Thread nD τ).loc cc0_scratch7 ↦{fullShare} f : sProp 𝕄) = bigSep Finset.univ fun i : Fin 8 => slotPt c i.val f :=
  Ring.pointsTo_blocks (ℓ := (c : Thread nD τ).loc cc0_scratch7) (fun i : Fin 8 => slotSet i.val) slotSet_disjoint slotSet_cover f

/-- The ring whole, at some contents, from its eight slots, each at some contents. -/
theorem ring_join (c : Dev nD) (f₀ : S8x256x2048.Idx → Elt F .f32) :
    bigSep Finset.univ (fun i : Fin 8 => iprop(∃ f, (slotPt c i.val f : sProp 𝕄))) ⊢ iprop(∃ f, (c : Thread nD τ).loc cc0_scratch7 ↦{fullShare} f) :=
  Ring.pointsTo_blocks_join_exists (ℓ := (c : Thread nD τ).loc cc0_scratch7) (fun i : Fin 8 => slotSet i.val) slotSet_disjoint slotSet_cover f₀

/-- A payload stored at a block of the ring reads back. -/
theorem slot_read_write (off : Fin 3 → ℕ) (inb : ∀ a, off a + S1x256x2048.size a ≤ S8x256x2048.size a) (f : S8x256x2048.Idx → Elt F .f32)
    (w : S1x256x2048.Idx → Elt F .f32) :
    ((Memref.whole cc0_scratch7 : Memref sig .tc .vmem S8x256x2048 .f32).access (slotRect off inb)).read (Elt F)
      (((Memref.whole cc0_scratch7 : Memref sig .tc .vmem S8x256x2048 .f32).access (slotRect off inb)).write (Elt F) f w Finset.univ) = w :=
  View.read_write_univ _ _

/-! ## What a slot is between two operations -/

/-- Slot `i` at home: its elements at some contents, its semaphore at zero. -/
def slotFree (c : Dev nD) (i : Fin 8) : sProp 𝕄 :=
  iprop((∃ f, slotPt c i f) ∗ semVal ((c : Thread nD τ), SemLoc.dma (sig := sig) ⟨5 + i.val, by have := i.isLt; show 5 + i.val < 13; omega⟩) 0)

/-- Slot `i` holding the payload `w`. -/
def slotFull (c : Dev nD) (i : Fin 8) (w : S1x256x2048.Idx → Elt F .f32) : sProp 𝕄 :=
  iprop((∃ f, ⌜∀ off inb, off = ![i.val, 0, 0] → ((Memref.whole cc0_scratch7).access (slotRect off inb)).read (Elt F) f = w⌝ ∗ slotPt c i f)
    ∗ semVal ((c : Thread nD τ), SemLoc.dma (sig := sig) ⟨5 + i.val, by have := i.isLt; show 5 + i.val < 13; omega⟩) 0)

/-- What slot `i`'s transfer delivers: window `i` of expert `e` at the target array, and the slot's elements. -/
def slotDel (c : Dev nD) (G : S16x2048x2048.Idx → Elt F .f32) (e : ℕ) (i : Fin 8) : sProp 𝕄 :=
  iprop(hW c G e i ∗ ∃ f, slotPt c i f)

/-- Slot `i` in flight to window `i` of expert `e`. -/
def slotFly (c : Dev nD) (G : S16x2048x2048.Idx → Elt F .f32) (e : ℕ) (i : Fin 8) : sProp 𝕄 :=
  Transfers.Flight (EC (F := F)) (c : Thread nD τ) (.dma ⟨5 + i.val, by have := i.isLt; show 5 + i.val < 13; omega⟩) () NN (slotDel c G e i)

/-- Slot `i` before an expert's products: at home at first, then in flight for the last expert `l` that had rows. -/
def slotIn (c : Dev nD) (G : S16x2048x2048.Idx → Elt F .f32) : Option ℕ → Fin 8 → sProp 𝕄
  | none, i => slotFree c i
  | some l, i => slotFly c G l i

/-- What the wait on slot `i` gains: the window the slot was in flight to. -/
def gained (c : Dev nD) (G : S16x2048x2048.Idx → Elt F .f32) : Option ℕ → Fin 8 → sProp 𝕄
  | none, _ => iprop(emp)
  | some l, i => hW c G l i

/-- The thread's own tallies, at whatever waits it has made. -/
def owesSome (c : Dev nD) : sProp 𝕄 := iprop(∃ W : Waits sig Unit, (owes (c : Thread nD τ) 0 W : sProp 𝕄))

/-! ## The operations -/

/-- The wait on a slot's semaphore, the slot in flight. -/
theorem slot_wait_fly (𝒱 : Variants) (c : Dev nD) (G : S16x2048x2048.Idx → Elt F .f32) (l : ℕ) (i : Fin 8)
    {α : Type} {Q : α → sProp 𝕄} (src : Memref sig .tc .vmem S256x2048 .f32) (off : Fin 3 → ℕ) (inb : ∀ a, off a + S1x256x2048.size a ≤ S16x2048x2048.size a)
    {hsrc : src.view.WordExact} {hdst : (hwin off inb).view.WordExact} {K : PUnit → Prog (TpuEff nD τ sig (Elt F) Λ₀ .tc) α} :
    iprop(slotFly c G l i ∗ owesSome c)
      ⊢ iprop((slotFree c i ∗ hW c G l i ∗ owesSome c -∗ wp frame (wpE defs₀ 𝒱 (c : Thread nD τ) none) Set.univ (K ⟨⟩) Q)
          -∗ wp frame (wpE defs₀ 𝒱 (c : Thread nD τ) none) Set.univ
            (Prog.lift (.waitDma2 ⟨5 + i.val, by have := i.isLt; show 5 + i.val < 13; omega⟩ src (hwin off inb) hsrc hdst) >>= K) Q) := by
  unfold slotFly owesSome
  iintro ⟨HF, ⟨%w, HW⟩⟩ Hk
  iapply (Transfers.wp_waitLocal (EC (F := F)) 𝒱 (c : Thread nD τ) none (srcw := src) (dstw := hwin off inb) () (N := NN) (by show RefSig.tileCredit S256x2048 .f32 = NN; decide +kernel)) $$ [HF HW]
  · isplitl [HF]; · iexact HF
    iexact HW
  unfold slotDel
  iintro ⟨⟨HH, Hs⟩, Hv, HW⟩
  iapply Hk
  unfold slotFree
  isplitl [Hs Hv]
  · isplitl [Hs]; · iexact Hs
    iexact Hv
  isplitl [HH]; · iexact HH
  iexists _
  iexact HW

/-- The guarded wait before a slot's product: taken exactly when an expert before had rows. -/
theorem slot_wait (𝒱 : Variants) (c : Dev nD) (G : S16x2048x2048.Idx → Elt F .f32) (l : Option ℕ) (i : Fin 8) {p : Prop} [Decidable p] (hp : p ↔ l.isSome)
    {α : Type} {Q : α → sProp 𝕄} (src : Memref sig .tc .vmem S256x2048 .f32) (off : Fin 3 → ℕ) (inb : ∀ a, off a + S1x256x2048.size a ≤ S16x2048x2048.size a)
    {hsrc : src.view.WordExact} {hdst : (hwin off inb).view.WordExact} {K : Prog (TpuEff nD τ sig (Elt F) Λ₀ .tc) α} :
    iprop(slotIn c G l i ∗ owesSome c)
      ⊢ iprop((slotFree c i ∗ gained c G l i ∗ owesSome c -∗ wp frame (wpE defs₀ 𝒱 (c : Thread nD τ) none) Set.univ K Q)
          -∗ wp frame (wpE defs₀ 𝒱 (c : Thread nD τ) none) Set.univ
            (if p then (Prog.lift (.waitDma2 ⟨5 + i.val, by have := i.isLt; show 5 + i.val < 13; omega⟩ src (hwin off inb) hsrc hdst) >>= fun _ => K) else K) Q) := by
  cases l with
  | none =>
    rw [if_neg (by rw [hp]; decide)]
    unfold slotIn gained
    iintro ⟨Hs, HW⟩ Hk
    iapply Hk
    isplitl [Hs]; · iexact Hs
    isplitr
    · dsimp only; iempintro
    iexact HW
  | some l =>
    rw [if_pos (by rw [hp]; rfl)]
    exact slot_wait_fly 𝒱 c G l i src off inb (K := fun _ => K)

/-- The product `w` stored into a free slot (the kernel loads the slot first and drops what it read). -/
theorem slot_store (𝒱 : Variants) (c : Dev nD) (i : Fin 8) (w : S1x256x2048.Idx → Elt F .f32)
    {α : Type} {Q : α → sProp 𝕄} (off : Fin 3 → ℕ) (inb : ∀ a, off a + S1x256x2048.size a ≤ S8x256x2048.size a) (hoff : off = ![i.val, 0, 0])
    {hl : (Memref.whole cc0_scratch7 : Memref sig .tc .vmem S8x256x2048 .f32).view.LoadsAt (slotRect off inb).toLoadRect}
    {hx : ((Memref.whole cc0_scratch7 : Memref sig .tc .vmem S8x256x2048 .f32).access (slotRect off inb)).Stores Finset.univ}
    {hm : (Finset.univ : Finset (slotRect off inb).shape.Idx) = Finset.univ ∨ ∀ a, (slotRect off inb).stride a = 1}
    {K : Prog (TpuEff nD τ sig (Elt F) Λ₀ .tc) α} :
    slotFree c i
      ⊢ iprop((slotFull c i w -∗ wp frame (wpE defs₀ 𝒱 (c : Thread nD τ) none) Set.univ K Q)
          -∗ wp frame (wpE defs₀ 𝒱 (c : Thread nD τ) none) Set.univ
            (Prog.lift (.load (Memref.whole cc0_scratch7) (slotRect off inb).toLoadRect hl) >>= fun _ =>
              Prog.lift (.store (Memref.whole cc0_scratch7) (slotRect off inb) w Finset.univ hx hm) >>= fun _ => K) Q) := by
  unfold slotFree
  iintro ⟨⟨%f, Hs⟩, Hv⟩ Hk
  ihave Hs := (Entails.of_eq (slotRect_eq c off inb hoff f)) $$ Hs
  iapply (wp_load_rect 𝒱 (c : Thread nD τ) none Set.univ (m := (Memref.whole cc0_scratch7 : Memref sig .tc .vmem S8x256x2048 .f32)) (r := slotRect off inb) subset_rfl) $$ Hs
  iintro Hs
  iapply (wp_store 𝒱 (c : Thread nD τ) none Set.univ (m := (Memref.whole cc0_scratch7 : Memref sig .tc .vmem S8x256x2048 .f32)) (r := slotRect off inb) (w := w) (Mk := Finset.univ) (S := ((Memref.whole cc0_scratch7).access (slotRect off inb)).set) subset_rfl) $$ Hs
  iintro Hs
  iapply Hk
  ihave Hs := (Entails.of_eq (slotRect_eq c off inb hoff _).symm) $$ Hs
  unfold slotFull
  isplitl [Hs]
  · iexists (((Memref.whole cc0_scratch7 : Memref sig .tc .vmem S8x256x2048 .f32).access (slotRect off inb)).write (Elt F) f w Finset.univ)
    isplitr
    · ipureintro
      intro off' inb' h'
      have : off = off' := hoff.trans h'.symm
      subst this
      exact slot_read_write _ _ _ _
    iexact Hs
  iexact Hv

/-- A full slot's transfer issued to its window, the product being the target array there. -/
theorem slot_issue (𝒱 : Variants) (c : Dev nD) (G f : S16x2048x2048.Idx → Elt F .f32) (e : ℕ) (i : Fin 8) (w : S1x256x2048.Idx → Elt F .f32)
    (hG : ∀ y ∈ W e i, G y = w (Fin.cons (⟨0, Nat.one_pos⟩ : Fin 1) (inW y)))
    {α : Type} {Q : α → sProp 𝕄} (soff : Fin 3 → ℕ) (sinb : ∀ a, soff a + S1x256x2048.size a ≤ S8x256x2048.size a) (hsoff : soff = ![i.val, 0, 0])
    (off : Fin 3 → ℕ) (inb : ∀ a, off a + S1x256x2048.size a ≤ S16x2048x2048.size a) (hoff : off = ![e, 256 * i.val, 0])
    {hsrc : (slotM soff sinb).view.WordExact} {hdst : (hwin off inb).view.WordExact}
    {hsem : (DmaTarget.here (nD := nD) (τ := τ) (p := .tc) (hwin off inb)).Typed .vmem (.dma ⟨5 + i.val, by have := i.isLt; show 5 + i.val < 13; omega⟩)}
    {K : PUnit → Prog (TpuEff nD τ sig (Elt F) Λ₀ .tc) α} :
    iprop(slotFull c i w ∗ hW c f e i)
      ⊢ iprop((slotFly c G e i -∗ wp frame (wpE defs₀ 𝒱 (c : Thread nD τ) none) Set.univ (K ⟨⟩) Q)
          -∗ wp frame (wpE defs₀ 𝒱 (c : Thread nD τ) none) Set.univ
            (Prog.lift (.enqueueDma (slotM soff sinb) (.here (hwin off inb)) (.dma ⟨5 + i.val, by have := i.isLt; show 5 + i.val < 13; omega⟩) hsrc hdst hsem) >>= K) Q) := by
  unfold slotFull
  iintro ⟨⟨⟨%g, %hg, Hs⟩, Hv⟩, HH⟩ Hk
  ihave Hs := (Entails.of_eq (slotM_eq c soff sinb hsoff g)) $$ Hs
  ihave HH := (Entails.of_eq (hwin_eq c off inb hoff f)) $$ HH
  iapply (Transfers.wp_dmaLocal (EC (F := F)) 𝒱 (c : Thread nD τ) none (src := slotM soff sinb) (dst := hwin off inb) (q := fullShare) (fs := g)
    (Sd := (hwin off inb).view.set) (fd := f) () NN (hwin_amount off inb _) (by decide) subset_rfl) $$ [Hs HH Hv]
  · isplitl [Hs]; · iexact Hs
    isplitl [HH]; · iexact HH
    iexact Hv
  iintro HF
  iapply Hk
  unfold slotFly
  iapply (Transfers.Flight_mono (EC (F := F)) (c : Thread nD τ) ?_) $$ HF
  unfold slotDel
  refine BI.sep_mono ?_ ((Entails.of_eq (slotM_eq c soff sinb hsoff g).symm).trans (exists_intro (Φ := fun f => (slotPt c i f : sProp 𝕄)) g))
  refine .trans (Entails.of_eq (hwin_eq c off inb hoff _).symm) (Entails.of_eq (hW_congr c fun y hy => ?_))
  refine (hwin_write off inb hoff hy f _).trans ((?_ : _ = _).trans (hG y hy).symm)
  have hr : Shape.reshapeEquiv (squeezes_S1x256x2048_S256x2048.numel_eq) (inW y)
      = (Fin.cons (⟨0, Nat.one_pos⟩ : Fin 1) (inW y) : S1x256x2048.Idx) := Shape.reshapeEquiv_cons_one _ _
  have := congrFun (hg soff sinb hsoff) (Shape.reshapeEquiv (squeezes_S1x256x2048_S256x2048.numel_eq) (inW y))
  rw [← hr]
  exact this

end Cert.Proof.KernelIdeal

end
-- ==== Proof.KernelIdeal.Parts.lean ====
/-
  One expert's eight products, in the pieces the kernel's body is cut into: for each slot, the wait for the transfer
  before, the product of the slot's columns, its store and the issue of its transfer.
-/
module

public import proofs.«01_k».proof.Proof.KernelIdeal.Slot

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The operands -/

/-- Block `i` of the transposed operand: its rows `256 i … 256 i + 255`. -/
def xtAt (XT : S2048x256.Idx → Elt F .bf16) (i : Fin 8) : S256x256.Idx → Elt F .bf16 := fun x =>
  XT fun
    | ⟨0, _⟩ => ⟨256 * i.val + (x 0).val, by have := i.isLt; have h : (x 0).val < 256 := (x 0).isLt; show _ < 2048; omega⟩
    | ⟨1, _⟩ => ⟨(x 1).val, (x 1).isLt⟩

/-- The two operands in the kernel's memory. -/
def opsMem (c : Dev nD) (XS : S256x2048.Idx → Elt F .bf16) (XT : S2048x256.Idx → Elt F .bf16) : sProp 𝕄 :=
  iprop(((c : Thread nD τ).loc cc0_scratch4 ↦{fullShare} XS) ∗ ((c : Thread nD τ).loc cc0_scratch5 ↦{fullShare} XT))

/-- The product of window `i` for the rows from `lo` up to `hi`. -/
def prod (XS : S256x2048.Idx → Elt F .bf16) (XT : S2048x256.Idx → Elt F .bf16) (lo hi : BitVec 32) (i : Fin 8) : S1x256x2048.Idx → Elt F .f32 :=
  k0_pay5 (k0_pay1 (F := F) lo hi) (xtAt XT i) XS

theorem xt_load (𝒱 : Variants) (c : Dev nD) (XS : S256x2048.Idx → Elt F .bf16) (XT : S2048x256.Idx → Elt F .bf16) (i : Fin 8) {α : Type} {Q : α → sProp 𝕄}
    (off : Fin 2 → ℕ) (inb : ∀ a, off a + S256x256.size a ≤ S2048x256.size a) (hoff : off = ![256 * i.val, 0])
    {hl : (Memref.whole cc0_scratch5 : Memref sig .tc .vmem S2048x256 .bf16).view.LoadsAt (Rect.unit (s := S2048x256) off S256x256.size inb).toLoadRect}
    {K : (S256x256.Idx → Elt F .bf16) → Prog (TpuEff nD τ sig (Elt F) Λ₀ .tc) α} :
    opsMem c XS XT ⊢ iprop((opsMem c XS XT -∗ wp frame (wpE defs₀ 𝒱 (c : Thread nD τ) none) Set.univ (K (xtAt XT i)) Q)
      -∗ wp frame (wpE defs₀ 𝒱 (c : Thread nD τ) none) Set.univ
          (Prog.lift (.load (Memref.whole cc0_scratch5) (Rect.unit (s := S2048x256) off S256x256.size inb).toLoadRect hl) >>= K) Q) := by
  have hval : (Memref.whole cc0_scratch5 : Memref sig .tc .vmem S2048x256 .bf16).view.readAt (Elt F) (Rect.unit (s := S2048x256) off S256x256.size inb).toLoadRect XT = xtAt XT i := by
    subst hoff
    funext x
    refine congrArg XT ?_
    funext a
    refine Fin.ext ?_
    fin_cases a
    · change 256 * i.val + 1 * (x 0).val = _; dsimp; omega
    · change 0 + 1 * (x 1).val = _; dsimp; omega
  unfold opsMem
  iintro ⟨HS, HT⟩ Hk
  iapply (wp_load 𝒱 (c : Thread nD τ) none Set.univ (m := (Memref.whole cc0_scratch5 : Memref sig .tc .vmem S2048x256 .bf16))
    (r := (Rect.unit (s := S2048x256) off S256x256.size inb).toLoadRect) (S := Finset.univ) (q := fullShare) (f := XT) (Finset.subset_univ _)) $$ HT
  iintro HT
  rw [hval]
  iapply Hk
  isplitl [HS]; · iexact HS
  iexact HT

theorem xs_load (𝒱 : Variants) (c : Dev nD) (XS : S256x2048.Idx → Elt F .bf16) (XT : S2048x256.Idx → Elt F .bf16) {α : Type} {Q : α → sProp 𝕄}
    (inb : ∀ a, (![0, 0] : Fin 2 → ℕ) a + S256x2048.size a ≤ S256x2048.size a)
    {hl : (Memref.whole cc0_scratch4 : Memref sig .tc .vmem S256x2048 .bf16).view.LoadsAt (Rect.unit (s := S256x2048) ![0, 0] S256x2048.size inb).toLoadRect}
    {K : (S256x2048.Idx → Elt F .bf16) → Prog (TpuEff nD τ sig (Elt F) Λ₀ .tc) α} :
    opsMem c XS XT ⊢ iprop((opsMem c XS XT -∗ wp frame (wpE defs₀ 𝒱 (c : Thread nD τ) none) Set.univ (K XS) Q)
      -∗ wp frame (wpE defs₀ 𝒱 (c : Thread nD τ) none) Set.univ
          (Prog.lift (.load (Memref.whole cc0_scratch4) (Rect.unit (s := S256x2048) ![0, 0] S256x2048.size inb).toLoadRect hl) >>= K) Q) := by
  have hval : (Memref.whole cc0_scratch4 : Memref sig .tc .vmem S256x2048 .bf16).view.readAt (Elt F) (Rect.unit (s := S256x2048) ![0, 0] S256x2048.size inb).toLoadRect XS = XS := by
    funext x
    refine congrArg XS ?_
    funext a
    refine Fin.ext ?_
    fin_cases a
    · change 0 + 1 * (x 0).val = _; dsimp; omega
    · change 0 + 1 * (x 1).val = _; dsimp; omega
  unfold opsMem
  iintro ⟨HS, HT⟩ Hk
  iapply (wp_load 𝒱 (c : Thread nD τ) none Set.univ (m := (Memref.whole cc0_scratch4 : Memref sig .tc .vmem S256x2048 .bf16))
    (r := (Rect.unit (s := S256x2048) ![0, 0] S256x2048.size inb).toLoadRect) (S := Finset.univ) (q := fullShare) (f := XS) (Finset.subset_univ _)) $$ HS
  iintro HS
  rw [hval]
  iapply Hk
  isplitl [HS]; · iexact HS
  iexact HT

/-- A part that returns `r₀` and leaves `post`, run before a continuation. -/
theorem then_part {𝒱 : Variants} {c : Dev nD} {α β : Type} {pre post : sProp 𝕄} {p : Prog (TpuEff nD τ sig (Elt F) Λ₀ .tc) α} {r₀ : α}
    (h : pre ⊢ wp frame (wpE defs₀ 𝒱 (c : Thread nD τ) none) Set.univ p (fun r => iprop(⌜r = r₀⌝ ∗ post)))
    {Q : β → sProp 𝕄} {K : α → Prog (TpuEff nD τ sig (Elt F) Λ₀ .tc) β} :
    pre ⊢ iprop((post -∗ wp frame (wpE defs₀ 𝒱 (c : Thread nD τ) none) Set.univ (K r₀) Q)
      -∗ wp frame (wpE defs₀ 𝒱 (c : Thread nD τ) none) Set.univ (p >>= K) Q) := by
  rw [wp_bind]
  refine h.trans ?_
  iintro Hp Hk
  iapply (wp_wand _ _ _) $$ Hp
  iintro %r ⟨%hr, Hpost⟩
  subst hr
  iapply Hk
  iexact Hpost

/-- Part 1: slot 0 sent, slot 1 free and its product at hand. -/
theorem part1 (𝒱 : Variants) (c : Dev nD) (G f : S16x2048x2048.Idx → Elt F .f32) (XS : S256x2048.Idx → Elt F .bf16) (XT : S2048x256.Idx → Elt F .bf16)
    (lo hi acc : BitVec 32) (k : Fin k0_t2_loop.trips) (l : Option ℕ)
    (hacc : (Scalar.cmpi .ne (Scalar.extui (Scalar.cmpi .sgt acc 0#32)) 0#32 = 1#1) ↔ l.isSome)
    (hG : ∀ i : Fin 8, ∀ y ∈ W k.val i.val, G y = prod XS XT lo hi i (Fin.cons (⟨0, Nat.one_pos⟩ : Fin 1) (inW y))) :
    iprop(slotIn c G l 0 ∗ slotIn c G l 1 ∗ hW c f k.val (0 : Fin 8) ∗ opsMem c XS XT ∗ owesSome c)
      ⊢ wp frame (wpE defs₀ 𝒱 (c : Thread nD τ) none) Set.univ
        (k0_part1 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc lo hi)
        (fun r => iprop(⌜r = ⟨k0_pay1 (F := F) lo hi, k0_pay3 lo hi (xtAt XT 1) XS⟩⌝
          ∗ slotFly c G k.val 0 ∗ slotFree c 1 ∗ gained c G l 0 ∗ gained c G l 1 ∗ opsMem c XS XT ∗ owesSome c)) := by
  rw [k0_part1_eq_skeleton]
  unfold k0_part1_skel
  dsimp only
  iintro ⟨H0, H1, HH, HX, HW⟩
  iapply (slot_wait 𝒱 c G l 0 hacc _ _ _) $$ [H0 HW]
  · isplitl [H0]; · iexact H0
    iexact HW
  iintro ⟨H0, Hg0, HW⟩
  iapply (xt_load 𝒱 c XS XT 0 _ _ rfl) $$ HX
  iintro HX
  iapply (xs_load 𝒱 c XS XT _) $$ HX
  iintro HX
  iapply (slot_store 𝒱 c 0 (prod XS XT lo hi 0) _ _ rfl) $$ H0
  iintro H0
  iapply (slot_issue 𝒱 c G f k.val 0 (prod XS XT lo hi 0) (hG 0) _ _ rfl _ _ (k0_off14_eq k)) $$ [H0 HH]
  · isplitl [H0]; · iexact H0
    iexact HH
  iintro H0
  iapply (slot_wait 𝒱 c G l 1 hacc _ _ _) $$ [H1 HW]
  · isplitl [H1]; · iexact H1
    iexact HW
  iintro ⟨H1, Hg1, HW⟩
  iapply (xt_load 𝒱 c XS XT 1 _ _ rfl) $$ HX
  iintro HX
  iapply (xs_load 𝒱 c XS XT _) $$ HX
  iintro HX
  sl_step
  isplitr; · ipureintro; rfl
  isplitl [H0]; · iexact H0
  isplitl [H1]; · iexact H1
  isplitl [Hg0]; · iexact Hg0
  isplitl [Hg1]; · iexact Hg1
  isplitl [HX]; · iexact HX
  iexact HW

/-- Part 2: slots 1 and 2 sent. -/
theorem part2 (𝒱 : Variants) (c : Dev nD) (G f : S16x2048x2048.Idx → Elt F .f32) (XS : S256x2048.Idx → Elt F .bf16) (XT : S2048x256.Idx → Elt F .bf16)
    (lo hi acc : BitVec 32) (k : Fin k0_t2_loop.trips) (l : Option ℕ)
    (hacc : (Scalar.cmpi .ne (Scalar.extui (Scalar.cmpi .sgt acc 0#32)) 0#32 = 1#1) ↔ l.isSome)
    (hG : ∀ i : Fin 8, ∀ y ∈ W k.val i.val, G y = prod XS XT lo hi i (Fin.cons (⟨0, Nat.one_pos⟩ : Fin 1) (inW y))) :
    iprop(slotFree c 1 ∗ slotIn c G l 2 ∗ hW c f k.val (1 : Fin 8) ∗ hW c f k.val (2 : Fin 8) ∗ opsMem c XS XT ∗ owesSome c)
      ⊢ wp frame (wpE defs₀ 𝒱 (c : Thread nD τ) none) Set.univ
        (k0_part2 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc (k0_pay1 (F := F) lo hi) (k0_pay3 lo hi (xtAt XT 1) XS))
        (fun r => iprop(⌜r = Scalar.extui (Scalar.cmpi .sgt acc 0#32)⌝
          ∗ slotFly c G k.val 1 ∗ slotFly c G k.val 2 ∗ gained c G l 2 ∗ opsMem c XS XT ∗ owesSome c)) := by
  rw [k0_part2_eq_skeleton]
  unfold k0_part2_skel
  dsimp only
  iintro ⟨H1, H2, HH1, HH2, HX, HW⟩
  iapply (slot_store 𝒱 c 1 (prod XS XT lo hi 1) _ _ rfl) $$ H1
  iintro H1
  iapply (slot_issue 𝒱 c G f k.val 1 (prod XS XT lo hi 1) (hG 1) _ _ rfl _ _ (k0_off16_eq k)) $$ [H1 HH1]
  · isplitl [H1]; · iexact H1
    iexact HH1
  iintro H1
  iapply (slot_wait 𝒱 c G l 2 hacc _ _ _) $$ [H2 HW]
  · isplitl [H2]; · iexact H2
    iexact HW
  iintro ⟨H2, Hg2, HW⟩
  iapply (xt_load 𝒱 c XS XT 2 _ _ rfl) $$ HX
  iintro HX
  iapply (xs_load 𝒱 c XS XT _) $$ HX
  iintro HX
  iapply (slot_store 𝒱 c 2 (prod XS XT lo hi 2) _ _ rfl) $$ H2
  iintro H2
  iapply (slot_issue 𝒱 c G f k.val 2 (prod XS XT lo hi 2) (hG 2) _ _ rfl _ _ (k0_off18_eq k)) $$ [H2 HH2]
  · isplitl [H2]; · iexact H2
    iexact HH2
  iintro H2
  sl_step
  isplitr; · ipureintro; rfl
  isplitl [H1]; · iexact H1
  isplitl [H2]; · iexact H2
  isplitl [Hg2]; · iexact Hg2
  isplitl [HX]; · iexact HX
  iexact HW

/-- Part 3: slot 3 sent, slot 4 filled. -/
theorem part3 (𝒱 : Variants) (c : Dev nD) (G f : S16x2048x2048.Idx → Elt F .f32) (XS : S256x2048.Idx → Elt F .bf16) (XT : S2048x256.Idx → Elt F .bf16)
    (lo hi acc : BitVec 32) (k : Fin k0_t2_loop.trips) (l : Option ℕ)
    (hacc : (Scalar.cmpi .ne (Scalar.extui (Scalar.cmpi .sgt acc 0#32)) 0#32 = 1#1) ↔ l.isSome)
    (hG : ∀ i : Fin 8, ∀ y ∈ W k.val i.val, G y = prod XS XT lo hi i (Fin.cons (⟨0, Nat.one_pos⟩ : Fin 1) (inW y))) :
    iprop(slotIn c G l 3 ∗ slotIn c G l 4 ∗ hW c f k.val (3 : Fin 8) ∗ opsMem c XS XT ∗ owesSome c)
      ⊢ wp frame (wpE defs₀ 𝒱 (c : Thread nD τ) none) Set.univ
        (k0_part3 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc (k0_pay1 (F := F) lo hi) (Scalar.extui (Scalar.cmpi .sgt acc 0#32)))
        (fun r => iprop(⌜r = ⟨⟩⌝
          ∗ slotFly c G k.val 3 ∗ slotFull c 4 (prod XS XT lo hi 4) ∗ gained c G l 3 ∗ gained c G l 4 ∗ opsMem c XS XT ∗ owesSome c)) := by
  rw [k0_part3_eq_skeleton]
  unfold k0_part3_skel
  dsimp only
  iintro ⟨H3, H4, HH3, HX, HW⟩
  iapply (slot_wait 𝒱 c G l 3 hacc _ _ _) $$ [H3 HW]
  · isplitl [H3]; · iexact H3
    iexact HW
  iintro ⟨H3, Hg3, HW⟩
  iapply (xt_load 𝒱 c XS XT 3 _ _ rfl) $$ HX
  iintro HX
  iapply (xs_load 𝒱 c XS XT _) $$ HX
  iintro HX
  iapply (slot_store 𝒱 c 3 (prod XS XT lo hi 3) _ _ rfl) $$ H3
  iintro H3
  iapply (slot_issue 𝒱 c G f k.val 3 (prod XS XT lo hi 3) (hG 3) _ _ rfl _ _ (k0_off20_eq k)) $$ [H3 HH3]
  · isplitl [H3]; · iexact H3
    iexact HH3
  iintro H3
  iapply (slot_wait 𝒱 c G l 4 hacc _ _ _) $$ [H4 HW]
  · isplitl [H4]; · iexact H4
    iexact HW
  iintro ⟨H4, Hg4, HW⟩
  iapply (xt_load 𝒱 c XS XT 4 _ _ rfl) $$ HX
  iintro HX
  iapply (xs_load 𝒱 c XS XT _) $$ HX
  iintro HX
  iapply (slot_store 𝒱 c 4 (prod XS XT lo hi 4) _ _ rfl) $$ H4
  iintro H4
  sl_step
  isplitr; · ipureintro; rfl
  isplitl [H3]; · iexact H3
  isplitl [H4]; · iexact H4
  isplitl [Hg3]; · iexact Hg3
  isplitl [Hg4]; · iexact Hg4
  isplitl [HX]; · iexact HX
  iexact HW

/-- Part 4: slots 4 and 5 sent, slot 6 free and its masked operand at hand. -/
theorem part4 (𝒱 : Variants) (c : Dev nD) (G f : S16x2048x2048.Idx → Elt F .f32) (XS : S256x2048.Idx → Elt F .bf16) (XT : S2048x256.Idx → Elt F .bf16)
    (lo hi acc : BitVec 32) (k : Fin k0_t2_loop.trips) (l : Option ℕ)
    (hacc : (Scalar.cmpi .ne (Scalar.extui (Scalar.cmpi .sgt acc 0#32)) 0#32 = 1#1) ↔ l.isSome)
    (hG : ∀ i : Fin 8, ∀ y ∈ W k.val i.val, G y = prod XS XT lo hi i (Fin.cons (⟨0, Nat.one_pos⟩ : Fin 1) (inW y))) :
    iprop(slotFull c 4 (prod XS XT lo hi 4) ∗ slotIn c G l 5 ∗ slotIn c G l 6 ∗ hW c f k.val (4 : Fin 8) ∗ hW c f k.val (5 : Fin 8) ∗ opsMem c XS XT ∗ owesSome c)
      ⊢ wp frame (wpE defs₀ 𝒱 (c : Thread nD τ) none) Set.univ
        (k0_part4 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc (k0_pay1 (F := F) lo hi))
        (fun r => iprop(⌜r = k0_pay9 (k0_pay1 (F := F) lo hi) (xtAt XT 6)⌝
          ∗ slotFly c G k.val 4 ∗ slotFly c G k.val 5 ∗ slotFree c 6 ∗ gained c G l 5 ∗ gained c G l 6 ∗ opsMem c XS XT ∗ owesSome c)) := by
  rw [k0_part4_eq_skeleton]
  unfold k0_part4_skel
  dsimp only
  iintro ⟨H4, H5, H6, HH4, HH5, HX, HW⟩
  iapply (slot_issue 𝒱 c G f k.val 4 (prod XS XT lo hi 4) (hG 4) _ _ rfl _ _ (k0_off22_eq k)) $$ [H4 HH4]
  · isplitl [H4]; · iexact H4
    iexact HH4
  iintro H4
  iapply (slot_wait 𝒱 c G l 5 hacc _ _ _) $$ [H5 HW]
  · isplitl [H5]; · iexact H5
    iexact HW
  iintro ⟨H5, Hg5, HW⟩
  iapply (xt_load 𝒱 c XS XT 5 _ _ rfl) $$ HX
  iintro HX
  iapply (xs_load 𝒱 c XS XT _) $$ HX
  iintro HX
  iapply (slot_store 𝒱 c 5 (prod XS XT lo hi 5) _ _ rfl) $$ H5
  iintro H5
  iapply (slot_issue 𝒱 c G f k.val 5 (prod XS XT lo hi 5) (hG 5) _ _ rfl _ _ (k0_off24_eq k)) $$ [H5 HH5]
  · isplitl [H5]; · iexact H5
    iexact HH5
  iintro H5
  iapply (slot_wait 𝒱 c G l 6 hacc _ _ _) $$ [H6 HW]
  · isplitl [H6]; · iexact H6
    iexact HW
  iintro ⟨H6, Hg6, HW⟩
  iapply (xt_load 𝒱 c XS XT 6 _ _ rfl) $$ HX
  iintro HX
  sl_step
  isplitr; · ipureintro; rfl
  isplitl [H4]; · iexact H4
  isplitl [H5]; · iexact H5
  isplitl [H6]; · iexact H6
  isplitl [Hg5]; · iexact Hg5
  isplitl [Hg6]; · iexact Hg6
  isplitl [HX]; · iexact HX
  iexact HW

/-- Part 5: slot 6 sent, slot 7 filled. -/
theorem part5 (𝒱 : Variants) (c : Dev nD) (G f : S16x2048x2048.Idx → Elt F .f32) (XS : S256x2048.Idx → Elt F .bf16) (XT : S2048x256.Idx → Elt F .bf16)
    (lo hi acc : BitVec 32) (k : Fin k0_t2_loop.trips) (l : Option ℕ)
    (hacc : (Scalar.cmpi .ne (Scalar.extui (Scalar.cmpi .sgt acc 0#32)) 0#32 = 1#1) ↔ l.isSome)
    (hG : ∀ i : Fin 8, ∀ y ∈ W k.val i.val, G y = prod XS XT lo hi i (Fin.cons (⟨0, Nat.one_pos⟩ : Fin 1) (inW y))) :
    iprop(slotFree c 6 ∗ slotIn c G l 7 ∗ hW c f k.val (6 : Fin 8) ∗ opsMem c XS XT ∗ owesSome c)
      ⊢ wp frame (wpE defs₀ 𝒱 (c : Thread nD τ) none) Set.univ
        (k0_part5 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 k acc (k0_pay1 (F := F) lo hi) (k0_pay9 (k0_pay1 (F := F) lo hi) (xtAt XT 6)))
        (fun r => iprop(⌜r = ⟨⟩⌝
          ∗ slotFly c G k.val 6 ∗ slotFull c 7 (prod XS XT lo hi 7) ∗ gained c G l 7 ∗ opsMem c XS XT ∗ owesSome c)) := by
  rw [k0_part5_eq_skeleton]
  unfold k0_part5_skel
  dsimp only
  iintro ⟨H6, H7, HH6, HX, HW⟩
  iapply (xs_load 𝒱 c XS XT _) $$ HX
  iintro HX
  iapply (slot_store 𝒱 c 6 (prod XS XT lo hi 6) _ _ rfl) $$ H6
  iintro H6
  iapply (slot_issue 𝒱 c G f k.val 6 (prod XS XT lo hi 6) (hG 6) _ _ rfl _ _ (k0_off26_eq k)) $$ [H6 HH6]
  · isplitl [H6]; · iexact H6
    iexact HH6
  iintro H6
  iapply (slot_wait 𝒱 c G l 7 hacc _ _ _) $$ [H7 HW]
  · isplitl [H7]; · iexact H7
    iexact HW
  iintro ⟨H7, Hg7, HW⟩
  iapply (xt_load 𝒱 c XS XT 7 _ _ rfl) $$ HX
  iintro HX
  iapply (xs_load 𝒱 c XS XT _) $$ HX
  iintro HX
  iapply (slot_store 𝒱 c 7 (prod XS XT lo hi 7) _ _ rfl) $$ H7
  iintro H7
  sl_step
  isplitr; · ipureintro; rfl
  isplitl [H6]; · iexact H6
  isplitl [H7]; · iexact H7
  isplitl [Hg7]; · iexact Hg7
  isplitl [HX]; · iexact HX
  iexact HW

end Cert.Proof.KernelIdeal

end
-- ==== Proof.KernelIdeal.T2.lean ====
/-
  The loop over the experts' products: an expert with rows waits for the eight slots of the last expert that had rows, and
  sends its own eight products; an expert with none changes nothing. The invariant says, before each trip, which windows of
  `H` hold the target array, which are in flight and which are still to come.
-/
module

public import proofs.«01_k».proof.Proof.KernelIdeal.Parts

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The last expert with rows -/

/-- The last expert with rows before `k`, if there is one. -/
def lastBusy (o : S17.Idx → BitVec 32) : ℕ → Option ℕ
  | 0 => none
  | k + 1 => if busy o k = true then some k else lastBusy o k

theorem lastBusy_of_busy (o : S17.Idx → BitVec 32) {k : ℕ} (h : busy o k = true) : lastBusy o (k + 1) = some k := by
  rw [lastBusy, if_pos h]

theorem lastBusy_of_idle (o : S17.Idx → BitVec 32) {k : ℕ} (h : busy o k = false) : lastBusy o (k + 1) = lastBusy o k := by
  rw [lastBusy, if_neg (by rw [h]; decide)]

theorem lastBusy_spec (o : S17.Idx → BitVec 32) {k l : ℕ} (h : lastBusy o k = some l) : l < k ∧ busy o l = true := by
  induction k with
  | zero => cases h
  | succ k ih =>
    by_cases hb : busy o k = true
    · rw [lastBusy_of_busy o hb] at h
      cases h
      exact ⟨by omega, hb⟩
    · rw [lastBusy_of_idle o (by simpa using hb)] at h
      exact ⟨by have := (ih h).1; omega, (ih h).2⟩

theorem lastBusy_isSome (o : S17.Idx → BitVec 32) (k : ℕ) : (lastBusy o k).isSome ↔ idle o k < k := by
  induction k with
  | zero => simp [lastBusy]
  | succ k ih =>
    have hl := idle_le o k
    by_cases hb : busy o k = true
    · rw [lastBusy_of_busy o hb, idle_of_busy o hb]
      simp; omega
    · rw [lastBusy_of_idle o (by simpa using hb), idle_of_idle o (by simpa using hb), ih]
      omega

/-- The count of experts with rows before `k`, as the kernel carries it. -/
def busyWord (o : S17.Idx → BitVec 32) (k : ℕ) : BitVec 32 := BitVec.ofNat 32 (k - idle o k)

theorem busyWord_pos (o : S17.Idx → BitVec 32) {k : ℕ} (hk : k ≤ 16) :
    (Scalar.cmpi .ne (Scalar.extui (Scalar.cmpi .sgt (busyWord o k) 0#32)) 0#32 = 1#1) ↔ (lastBusy o k).isSome := by
  rw [guard_sgt, lastBusy_isSome]
  have hl := idle_le o k
  unfold busyWord
  generalize hn : k - idle o k = n
  have h16 : n ≤ 16 := by omega
  have : (BitVec.slt 0#32 (BitVec.ofNat 32 n) = true) ↔ 0 < n := by
    clear hn; revert h16; revert n; decide
  rw [this]; omega

theorem busyWord_succ (o : S17.Idx → BitVec 32) (k : ℕ) :
    Scalar.addi (busyWord o k) (Scalar.extui (Scalar.cmpi .sgt (offAt o (k + 1)) (offAt o k))) = busyWord o (k + 1) := by
  have hl := idle_le o k
  show busyWord o k + (BitVec.ofBool (busy o k)).setWidth 32 = _
  unfold busyWord
  cases hb : busy o k with
  | true =>
    rw [idle_of_busy o hb, show k + 1 - idle o k = (k - idle o k) + 1 by omega, BitVec.ofNat_add]
    rfl
  | false =>
    rw [idle_of_idle o hb, show k + 1 - (idle o k + 1) = k - idle o k by omega]
    simp

/-! ## The windows done -/

/-- Before trip `k`: the windows of the experts with rows before `k` whose transfers are known to have landed — all but the
    last one's. -/
def doneSep (c : Dev nD) (o : S17.Idx → BitVec 32) (G : S16x2048x2048.Idx → Elt F .f32) (k : ℕ) : sProp 𝕄 :=
  bigSep (Finset.range k) fun e => if busy o e = true ∧ lastBusy o k ≠ some e then hE c G e else iprop(emp)

/-- The windows of the experts with rows before `k`. -/
def busySep (c : Dev nD) (o : S17.Idx → BitVec 32) (G : S16x2048x2048.Idx → Elt F .f32) (k : ℕ) : sProp 𝕄 :=
  bigSep (Finset.range k) fun e => if busy o e = true then hE c G e else iprop(emp)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [BI.bigSep_eq_bigSepL_of_eq [0, 1, 2, 3, 4, 5, 6, 7] (by decide) (by decide)]; rfl

theorem sep_insert {T : Type} [DecidableEq T] {s : Finset T} {a : T} (h : a ∉ s) (Φ : T → sProp 𝕄) :
    bigSep (insert a s) Φ = iprop(Φ a ∗ bigSep s Φ) := bigSep_insert h

theorem sep_mono_on {T : Type} {s : Finset T} {Φ Ψ : T → sProp 𝕄} (h : ∀ a ∈ s, Φ a ⊢ Ψ a) : bigSep s Φ ⊢ bigSep s Ψ := bigSep_mono h

theorem done_all (c : Dev nD) (o : S17.Idx → BitVec 32) (G : S16x2048x2048.Idx → Elt F .f32) (k : ℕ) :
    iprop(doneSep c o G k ∗ bigSep Finset.univ (gained c G (lastBusy o k))) ⊢ busySep c o G k := by
  unfold doneSep busySep
  cases hl : lastBusy o k with
  | none =>
    iintro ⟨H, -⟩
    iapply (sep_mono_on (fun e _ => ?_)) $$ H
    by_cases hb : busy o e = true
    · rw [if_pos hb, if_pos ⟨hb, by simp⟩]
    · rw [if_neg hb, if_neg (fun h => hb h.1)]
  | some l =>
    have hs := lastBusy_spec o hl
    rw [← Finset.insert_erase (Finset.mem_range.mpr hs.1), sep_insert (Finset.notMem_erase _ _), sep_insert (Finset.notMem_erase _ _),
      if_pos hs.2]
    iintro ⟨⟨-, H⟩, Hg⟩
    isplitl [Hg]
    · iapply (Entails.of_eq ((bigSep_fin8 (gained c G (some l))).trans (bigSep_range8 (hW c G l)).symm)) $$ Hg
    iapply (sep_mono_on (fun e he => ?_)) $$ H
    by_cases hb : busy o e = true
    · rw [if_pos hb, if_pos ⟨hb, fun h => (Finset.mem_erase.mp he).1 (by cases h; rfl)⟩]
    · rw [if_neg hb, if_neg (fun h => hb h.1)]

theorem done_busy (c : Dev nD) (o : S17.Idx → BitVec 32) (G : S16x2048x2048.Idx → Elt F .f32) {k : ℕ} (hb : busy o k = true) :
    (busySep c o G k : sProp 𝕄) ⊢ doneSep c o G (k + 1) := by
  unfold doneSep busySep
  rw [lastBusy_of_busy o hb, Finset.range_add_one, sep_insert Finset.notMem_range_self, if_neg (fun h => h.2 rfl)]
  iintro H
  isplitr
  · iempintro
  iapply (sep_mono_on (fun e he => ?_)) $$ H
  by_cases hb : busy o e = true
  · rw [if_pos hb, if_pos ⟨hb, fun h => absurd (Finset.mem_range.mp he) (by cases h; omega)⟩]
  · rw [if_neg hb, if_neg (fun h => hb h.1)]

theorem done_idle (c : Dev nD) (o : S17.Idx → BitVec 32) (G : S16x2048x2048.Idx → Elt F .f32) {k : ℕ} (hb : busy o k = false) :
    (doneSep c o G k : sProp 𝕄) ⊢ doneSep c o G (k + 1) := by
  unfold doneSep
  rw [lastBusy_of_idle o hb, Finset.range_add_one, sep_insert Finset.notMem_range_self, if_neg (by rw [hb]; simp)]
  iintro H
  isplitr
  · iempintro
  iexact H

/-! ## The loop -/

/-- Before trip `k` of the loop over the experts' products. -/
def t2Inv (c : Dev nD) (o : S17.Idx → Elt F .i32) (G f : S16x2048x2048.Idx → Elt F .f32) (XS : S256x2048.Idx → Elt F .bf16) (XT : S2048x256.Idx → Elt F .bf16)
    (k : ℕ) (acc : BitVec 32) : sProp 𝕄 :=
  iprop(⌜acc = busyWord o k⌝ ∗ offsMem c o ∗ opsMem c XS XT ∗ owesSome c
    ∗ bigSep (Finset.Ico k 16) (fun e => if busy o e = true then hE c f e else iprop(emp))
    ∗ doneSep c o G k ∗ bigSep Finset.univ (slotIn c G (lastBusy o k)))

theorem t2_trips : k0_t2_loop.trips = 16 := by decide +kernel

theorem t2_step (𝒱 : Variants) (c : Dev nD) (o : S17.Idx → Elt F .i32) (G f : S16x2048x2048.Idx → Elt F .f32) (XS : S256x2048.Idx → Elt F .bf16) (XT : S2048x256.Idx → Elt F .bf16)
    (hG : ∀ e, busy o e = true → ∀ i : Fin 8, ∀ y ∈ W e i.val, G y = prod XS XT (offAt o e) (offAt o (e + 1)) i (Fin.cons (⟨0, Nat.one_pos⟩ : Fin 1) (inW y)))
    (v83 : FVec F S256x32 .f32) (v378 : IVec S256x128 32) (v381 v384 : FVec F S256x128 .f32) (c64 : BitVec 32)
    (k : Fin k0_t2_loop.trips) (acc : BitVec 32) :
    t2Inv c o G f XS XT k acc ⊢ wp frame (wpE defs₀ 𝒱 (c : Thread nD τ) none) Set.univ
      (k0_t2_body (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 v83 v378 v381 v384 c64 k acc)
      (t2Inv c o G f XS XT (k.val + 1)) := by
  have hk : k.val < 16 := t2_trips ▸ k.isLt
  have hil := idle_le o k.val
  unfold t2Inv
  rw [bigSep_Ico_succ_bot hk]
  iintro ⟨%hacc, HO, HX, HW, ⟨He, Hh⟩, Hd, Hs⟩
  subst hacc
  unfold k0_t2_body
  iapply (offs_load 𝒱 c o _ _ (k0_off11_eq k)) $$ HO
  iintro HO
  iapply (offs_load 𝒱 c o _ _ (k0_off12_eq k)) $$ HO
  iintro HO
  by_cases hb : busy o k.val = true
  · have hacc := busyWord_pos o (k := k.val) (by omega)
    ihave He := (Entails.of_eq (if_pos hb)) $$ He
    ihave He := (Entails.of_eq (bigSep_range8 (hW c f k.val))) $$ He
    ihave Hs := (Entails.of_eq (bigSep_fin8 (slotIn c G (lastBusy o k.val)))) $$ Hs
    icases He with ⟨HH0, HH1, HH2, HH3, HH4, HH5, HH6, HH7⟩
    icases Hs with ⟨H0, H1, H2, H3, H4, H5, H6, H7⟩
    dsimp only
    rw [if_pos ((guard_sgt _ _).mpr hb)]
    iapply (then_part (part1 𝒱 c G f XS XT (offAt o k.val) (offAt o (k.val + 1)) (busyWord o k.val) k (lastBusy o k.val) hacc (hG k.val hb))) $$ [H0 H1 HH0 HX HW]
    · isplitl [H0]; · iexact H0
      isplitl [H1]; · iexact H1
      isplitl [HH0]; · iexact HH0
      isplitl [HX]; · iexact HX
      iexact HW
    iintro ⟨H0, H1, Hg0, Hg1, HX, HW⟩
    dsimp only
    iapply (then_part (part2 𝒱 c G f XS XT (offAt o k.val) (offAt o (k.val + 1)) (busyWord o k.val) k (lastBusy o k.val) hacc (hG k.val hb))) $$ [H1 H2 HH1 HH2 HX HW]
    · isplitl [H1]; · iexact H1
      isplitl [H2]; · iexact H2
      isplitl [HH1]; · iexact HH1
      isplitl [HH2]; · iexact HH2
      isplitl [HX]; · iexact HX
      iexact HW
    iintro ⟨H1, H2, Hg2, HX, HW⟩
    dsimp only
    iapply (then_part (part3 𝒱 c G f XS XT (offAt o k.val) (offAt o (k.val + 1)) (busyWord o k.val) k (lastBusy o k.val) hacc (hG k.val hb))) $$ [H3 H4 HH3 HX HW]
    · isplitl [H3]; · iexact H3
      isplitl [H4]; · iexact H4
      isplitl [HH3]; · iexact HH3
      isplitl [HX]; · iexact HX
      iexact HW
    iintro ⟨H3, H4, Hg3, Hg4, HX, HW⟩
    dsimp only
    iapply (then_part (part4 𝒱 c G f XS XT (offAt o k.val) (offAt o (k.val + 1)) (busyWord o k.val) k (lastBusy o k.val) hacc (hG k.val hb))) $$ [H4 H5 H6 HH4 HH5 HX HW]
    · isplitl [H4]; · iexact H4
      isplitl [H5]; · iexact H5
      isplitl [H6]; · iexact H6
      isplitl [HH4]; · iexact HH4
      isplitl [HH5]; · iexact HH5
      isplitl [HX]; · iexact HX
      iexact HW
    iintro ⟨H4, H5, H6, Hg5, Hg6, HX, HW⟩
    dsimp only
    iapply (then_part (part5 𝒱 c G f XS XT (offAt o k.val) (offAt o (k.val + 1)) (busyWord o k.val) k (lastBusy o k.val) hacc (hG k.val hb))) $$ [H6 H7 HH6 HX HW]
    · isplitl [H6]; · iexact H6
      isplitl [H7]; · iexact H7
      isplitl [HH6]; · iexact HH6
      isplitl [HX]; · iexact HX
      iexact HW
    iintro ⟨H6, H7, Hg7, HX, HW⟩
    dsimp only
    iapply (slot_issue 𝒱 c G f k.val 7 (prod XS XT (offAt o k.val) (offAt o (k.val + 1)) 7) (hG k.val hb 7) _ _ rfl _ _ (k0_off28_eq k)) $$ [H7 HH7]
    · isplitl [H7]; · iexact H7
      iexact HH7
    iintro H7
    sl_step
    isplitr
    · ipureintro
      exact busyWord_succ o k.val
    isplitl [HO]; · iexact HO
    isplitl [HX]; · iexact HX
    isplitl [HW]; · iexact HW
    isplitl [Hh]; · iexact Hh
    isplitl [Hd Hg0 Hg1 Hg2 Hg3 Hg4 Hg5 Hg6 Hg7]
    · iapply (done_busy c o G hb)
      iapply (done_all c o G k.val)
      isplitl [Hd]; · iexact Hd
      iapply (Entails.of_eq (bigSep_fin8 (gained c G (lastBusy o k.val))).symm)
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    rw [lastBusy_of_busy o hb, show slotIn c G (some k.val) = slotFly c G k.val from rfl]
    iapply (Entails.of_eq (bigSep_fin8 (slotFly c G k.val)).symm)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  have hb' : busy o k.val = false := by simpa using hb
  have hg : ¬ (Scalar.cmpi .ne (Scalar.extui (Scalar.cmpi .sgt (offAt o (k.val + 1)) (offAt o k.val))) 0#32 = 1#1) := by
    rw [guard_sgt]; exact hb
  ihave He := (Entails.of_eq (if_neg hb)) $$ He
  dsimp only
  rw [if_neg hg]
  sl_step
  isplitr
  · ipureintro
    exact busyWord_succ o k.val
  isplitl [HO]; · iexact HO
  isplitl [HX]; · iexact HX
  isplitl [HW]; · iexact HW
  isplitl [Hh]; · iexact Hh
  isplitl [Hd]
  · iapply (done_idle c o G hb') $$ Hd
  rw [lastBusy_of_idle o hb']
  iexact Hs

end Cert.Proof.KernelIdeal

end
-- ==== Proof.KernelIdeal.Front.lean ====
/-
  The kernel's opening: the inputs copied in, the zero block stored, the sixteen counts computed, the windows of the
  experts with no rows sent out as zeros, and the counts sent out.
-/
module

public import proofs.«01_k».proof.Proof.KernelIdeal.T2

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## Whole-buffer transfers -/

/-- A whole buffer sent to another: in flight, to deliver the destination at the source's contents and the source. -/
theorem whole_issue (𝒱 : Variants) (c : Dev nD) {sp sp' : Space} {s : Shape} {e : EltTy} (src : Memref sig .tc sp s e) (dst : Memref sig .tc sp' s e)
    (hs : src.view.set = Finset.univ) (hd : dst.view.set = Finset.univ) {sm : DmaSem sig} (hN0 : 0 < dst.view.dmaCredit)
    (fs : Buf (Elt F) (src.view.loc (c : Thread nD τ))) (w : Buf (Elt F) (dst.view.loc (c : Thread nD τ)))
    (hw : ∀ fd, dst.view.write (Elt F) fd (src.view.read (Elt F) fs) Finset.univ = w)
    {α : Type} {Q : α → sProp 𝕄} {hsrc : src.view.WordExact} {hdst : dst.view.WordExact}
    {hsem : (DmaTarget.here (nD := nD) (τ := τ) (p := .tc) dst).Typed sp (.dma sm)}
    {K : PUnit → Prog (TpuEff nD τ sig (Elt F) Λ₀ .tc) α} :
    iprop((src.view.loc (c : Thread nD τ) ↦{fullShare} fs) ∗ (∃ fd, dst.view.loc (c : Thread nD τ) ↦{fullShare} fd) ∗ semVal ((c : Thread nD τ), SemLoc.dma sm) 0)
      ⊢ iprop((Transfers.Flight (EC (F := F)) (c : Thread nD τ) (.dma sm) () dst.view.dmaCredit
            iprop((dst.view.loc (c : Thread nD τ) ↦{fullShare} w) ∗ (src.view.loc (c : Thread nD τ) ↦{fullShare} fs))
          -∗ wp frame (wpE defs₀ 𝒱 (c : Thread nD τ) none) Set.univ (K ⟨⟩) Q)
        -∗ wp frame (wpE defs₀ 𝒱 (c : Thread nD τ) none) Set.univ (Prog.lift (.enqueueDma src (.here dst) (.dma sm) hsrc hdst hsem) >>= K) Q) := by
  iintro ⟨Hs, ⟨%fd, Hd⟩, Hv⟩ Hk
  iapply (Transfers.wp_dmaLocal (EC (F := F)) 𝒱 (c : Thread nD τ) none (src := src) (dst := dst) (q := fullShare) (fs := fs)
    (Sd := Finset.univ) (fd := fd) () dst.view.dmaCredit rfl hN0 (Finset.subset_univ _)) $$ [Hs Hd Hv]
  · isplitl [Hs]; · rw [hs]; iexact Hs
    isplitl [Hd]; · iexact Hd
    iexact Hv
  iintro HF
  iapply Hk
  iapply (Transfers.Flight_mono (EC (F := F)) (c : Thread nD τ) ?_) $$ HF
  rw [hs]
  exact sep_mono (Entails.of_eq (congrArg (fun g => (dst.view.loc (c : Thread nD τ) ↦{fullShare} g : sProp 𝕄)) (hw fd))) .rfl

/-- The wait on a transfer: what it delivers, and its semaphore at zero. -/
theorem flight_wait (𝒱 : Variants) (c : Dev nD) {sp sp' : Space} {s : Shape} {e : EltTy} (src : Memref sig .tc sp s e) (dst : Memref sig .tc sp' s e)
    {sm : DmaSem sig} {D : sProp 𝕄} {N : ℕ} (hN : dst.view.dmaCredit = N)
    {α : Type} {Q : α → sProp 𝕄} {hsrc : src.view.WordExact} {hdst : dst.view.WordExact}
    {K : PUnit → Prog (TpuEff nD τ sig (Elt F) Λ₀ .tc) α} :
    iprop(Transfers.Flight (EC (F := F)) (c : Thread nD τ) (.dma sm) () N D ∗ owesSome c)
      ⊢ iprop((D ∗ semVal ((c : Thread nD τ), SemLoc.dma sm) 0 ∗ owesSome c -∗ wp frame (wpE defs₀ 𝒱 (c : Thread nD τ) none) Set.univ (K ⟨⟩) Q)
        -∗ wp frame (wpE defs₀ 𝒱 (c : Thread nD τ) none) Set.univ (Prog.lift (.waitDma2 sm src dst hsrc hdst) >>= K) Q) := by
  unfold owesSome
  iintro ⟨HF, ⟨%w, HW⟩⟩ Hk
  iapply (Transfers.wp_waitLocal (EC (F := F)) 𝒱 (c : Thread nD τ) none (srcw := src) (dstw := dst) () (N := N) hN) $$ [HF HW]
  · isplitl [HF]; · iexact HF
    iexact HW
  iintro ⟨HD, Hv, HW⟩
  iapply Hk
  isplitl [HD]; · iexact HD
  isplitl [Hv]; · iexact Hv
  iexists _
  iexact HW

/-! ## The counts -/

/-- The counts: each expert's end less its first row. -/
def cntArr (o : S17.Idx → BitVec 32) : S16.Idx → BitVec 32 := fun y => Scalar.subi (offAt o ((y 0).val + 1)) (offAt o (y 0).val)

/-- The counts' scalar memory, the first `n` counts in place. -/
def cntMem (c : Dev nD) (o : S17.Idx → Elt F .i32) (n : ℕ) : sProp 𝕄 :=
  iprop(∃ f : S16.Idx → Elt F .i32, ⌜∀ y, (y 0).val < n → f y = cntArr o y⌝ ∗ ((c : Thread nD τ).loc cc0_scratch1 ↦{fullShare} f))

/-- Count `n` stored (the kernel loads the word first and drops what it read). -/
theorem cnt_store (𝒱 : Variants) (c : Dev nD) (o : S17.Idx → Elt F .i32) {α : Type} {Q : α → sProp 𝕄} {n : ℕ} (hn : n < 16) (off : Fin 1 → ℕ)
    (inb : ∀ a, off a + S1.size a ≤ S16.size a) (hoff : off = ![n])
    {h1 : (Rect.unit (s := S16) off S1.size inb).shape.numel = 1} {hp : EltTy.packing .i32 = 1}
    {hx : ((Memref.whole cc0_scratch1 : Memref sig .tc .smem S16 .i32).access (Rect.unit (s := S16) off S1.size inb)).Stores Finset.univ}
    {hm : (Finset.univ : Finset (Rect.unit (s := S16) off S1.size inb).shape.Idx) = Finset.univ ∨ ∀ a, (Rect.unit (s := S16) off S1.size inb).stride a = 1}
    {K : PUnit → Prog (TpuEff nD τ sig (Elt F) Λ₀ .tc) α} :
    cntMem c o n ⊢ iprop((cntMem c o (n + 1) -∗ wp frame (wpE defs₀ 𝒱 (c : Thread nD τ) none) Set.univ (K ⟨⟩) Q)
      -∗ wp frame (wpE defs₀ 𝒱 (c : Thread nD τ) none) Set.univ
          ((smemLoad (Memref.whole cc0_scratch1) (Rect.unit (s := S16) off S1.size inb) h1 hp) >>= fun _ =>
            Prog.lift (.store (Memref.whole cc0_scratch1) (Rect.unit (s := S16) off S1.size inb) (fun _ => Scalar.subi (offAt o (n + 1)) (offAt o n)) Finset.univ hx hm) >>= K) Q) := by
  subst hoff
  simp only [smemLoad, smemLoadElt, Prog.bind_op, Prog.bind_ret]
  unfold cntMem
  iintro ⟨%f, %hf, Hf⟩ Hk
  iapply (wp_load 𝒱 (c : Thread nD τ) none Set.univ (m := (Memref.whole cc0_scratch1 : Memref sig .tc .smem S16 .i32))
    (r := (Rect.unit (s := S16) ![n] S1.size inb).toLoadRect) (S := Finset.univ) (q := fullShare) (f := f) (Finset.subset_univ _)) $$ Hf
  iintro Hf
  iapply (wp_store 𝒱 (c : Thread nD τ) none Set.univ (m := (Memref.whole cc0_scratch1 : Memref sig .tc .smem S16 .i32))
    (r := Rect.unit (s := S16) ![n] S1.size inb) (Mk := Finset.univ) (S := Finset.univ) (f := f) (Finset.subset_univ _)) $$ Hf
  iintro Hf
  iapply Hk
  iexists (((Memref.whole cc0_scratch1 : Memref sig .tc .smem S16 .i32).access (Rect.unit (s := S16) ![n] S1.size inb)).write (Elt F) f
    (fun _ => Scalar.subi (offAt o (n + 1)) (offAt o n)) Finset.univ)
  isplitr
  · ipureintro
    intro y hy
    by_cases hyn : (y 0).val = n
    · have he : ((Memref.whole cc0_scratch1 : Memref sig .tc .smem S16 .i32).access (Rect.unit (s := S16) ![n] S1.size inb)).emb
          (fun | ⟨0, _⟩ => ⟨0, Nat.one_pos⟩) = y := by
        funext a
        refine Fin.ext ?_
        fin_cases a
        change n + 1 * 0 = (y 0).val
        omega
      have := ((Memref.whole cc0_scratch1 : Memref sig .tc .smem S16 .i32).access (Rect.unit (s := S16) ![n] S1.size inb)).write_emb_of_mem (Val := Elt F) f
        (fun _ => Scalar.subi (offAt o (n + 1)) (offAt o n)) (M := Finset.univ) (x := fun | ⟨0, _⟩ => ⟨0, Nat.one_pos⟩) (Finset.mem_univ _)
      rw [he] at this
      refine this.trans ?_
      unfold cntArr
      rw [hyn]
      rfl
    · rw [View.write_of_not_mem]
      · exact hf y (by omega)
      · intro hm
        have hm : y ∈ ((View.whole cc0_scratch1).slice (Rect.unit (s := S16) ![n] S1.size inb)).set := hm
        rw [View.set_slice_whole] at hm
        have := (Rect.mem_set_unit.mp hm) 0
        change n ≤ (y 0).val ∧ (y 0).val < n + 1 at this
        omega
  iexact Hf

/-! ## What is in flight -/

/-- The codes on their way in. -/
abbrev codesFly (c : Dev nD) (co : S256x2048.Idx → Elt F .fp8e4m3) : sProp 𝕄 :=
  Transfers.Flight (EC (F := F)) (c : Thread nD τ) (.dma 1) () (Memref.whole cc0_scratch2 : Memref sig .tc .vmem S256x2048 .fp8e4m3).view.dmaCredit
    iprop(((c : Thread nD τ).loc cc0_scratch2 ↦{fullShare} co) ∗ ((c : Thread nD τ).loc main_arg0 ↦{fullShare} co))

/-- The scales on their way in. -/
abbrev scalesFly (c : Dev nD) (sc : S256x32.Idx → Elt F .f32) : sProp 𝕄 :=
  Transfers.Flight (EC (F := F)) (c : Thread nD τ) (.dma 2) () (Memref.whole cc0_scratch3 : Memref sig .tc .vmem S256x32 .f32).view.dmaCredit
    iprop(((c : Thread nD τ).loc cc0_scratch3 ↦{fullShare} sc) ∗ ((c : Thread nD τ).loc main_arg1 ↦{fullShare} sc))

/-- The counts on their way out. -/
abbrev countsFly (c : Dev nD) (o : S17.Idx → Elt F .i32) : sProp 𝕄 :=
  Transfers.Flight (EC (F := F)) (c : Thread nD τ) (.dma 3) () (Memref.whole main_v0_1 : Memref sig .tc .hbm S16 .i32).view.dmaCredit
    iprop(((c : Thread nD τ).loc main_v0_1 ↦{fullShare} (cntArr o : S16.Idx → Elt F .i32)) ∗ ((c : Thread nD τ).loc cc0_scratch1 ↦{fullShare} (cntArr o : S16.Idx → Elt F .i32)))

/-- A semaphore at rest. -/
abbrev sem0 (c : Dev nD) (i : Fin 13) : sProp 𝕄 := semVal ((c : Thread nD τ), SemLoc.dma (sig := sig) i) 0

/-! ## The parts -/

set_option maxHeartbeats 4000000 in
/-- Part 7: the inputs sent in, the zero block stored, the offsets waited for, the first four counts. -/
theorem part7 (𝒱 : Variants) (c : Dev nD) (o : S17.Idx → Elt F .i32) (co : S256x2048.Idx → Elt F .fp8e4m3) (sc : S256x32.Idx → Elt F .f32) :
    iprop(((c : Thread nD τ).loc main_arg2 ↦{fullShare} o) ∗ ((c : Thread nD τ).loc main_arg0 ↦{fullShare} co) ∗ ((c : Thread nD τ).loc main_arg1 ↦{fullShare} sc)
        ∗ (∃ f, (c : Thread nD τ).loc cc0_scratch0 ↦{fullShare} f) ∗ cntMem c o 0 ∗ (∃ f, (c : Thread nD τ).loc cc0_scratch2 ↦{fullShare} f)
        ∗ (∃ f, (c : Thread nD τ).loc cc0_scratch3 ↦{fullShare} f) ∗ (∃ f, (c : Thread nD τ).loc cc0_scratch6 ↦{fullShare} f)
        ∗ sem0 c 0 ∗ sem0 c 1 ∗ sem0 c 2 ∗ owesSome c)
      ⊢ wp frame (wpE defs₀ 𝒱 (c : Thread nD τ) none) Set.univ
        (k0_part7 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
        (fun r => iprop(⌜r = ⟨offAt o 5, offAt o 4⟩⌝ ∗ ((c : Thread nD τ).loc main_arg2 ↦{fullShare} o) ∗ offsMem c o ∗ cntMem c o 4 ∗ codesFly c co ∗ scalesFly c sc
          ∗ ((c : Thread nD τ).loc cc0_scratch6 ↦{fullShare} (k0_pay12 (F := F))) ∗ sem0 c 0 ∗ owesSome c)) := by
  rw [k0_part7_eq_skeleton]
  unfold k0_part7_skel
  dsimp only
  iintro ⟨Ho, Hco, Hsc, HO, HC, Hs2, Hs3, ⟨%z, Hz⟩, H0, H1, H2, HW⟩
  iapply (whole_issue 𝒱 c (Memref.whole main_arg2) (Memref.whole cc0_scratch0) (View.set_whole _) (View.set_whole _) (sm := 0) (by decide +kernel) o o
    (fun fd => View.write_whole_univ _ _ _)) $$ [Ho HO H0]
  · isplitl [Ho]; · iexact Ho
    isplitl [HO]; · iexact HO
    iexact H0
  iintro F0
  iapply (whole_issue 𝒱 c (Memref.whole main_arg0) (Memref.whole cc0_scratch2) (View.set_whole _) (View.set_whole _) (sm := 1) (by decide +kernel) co co
    (fun fd => View.write_whole_univ _ _ _)) $$ [Hco Hs2 H1]
  · isplitl [Hco]; · iexact Hco
    isplitl [Hs2]; · iexact Hs2
    iexact H1
  iintro F1
  iapply (whole_issue 𝒱 c (Memref.whole main_arg1) (Memref.whole cc0_scratch3) (View.set_whole _) (View.set_whole _) (sm := 2) (by decide +kernel) sc sc
    (fun fd => View.write_whole_univ _ _ _)) $$ [Hsc Hs3 H2]
  · isplitl [Hsc]; · iexact Hsc
    isplitl [Hs3]; · iexact Hs3
    iexact H2
  iintro F2
  iapply (wp_load 𝒱 (c : Thread nD τ) none Set.univ (m := (Memref.whole cc0_scratch6 : Memref sig .tc .vmem S256x2048 .f32))
    (r := (Rect.unit (s := S256x2048) ![0, 0] S256x2048.size inb_S256x2048_S256x2048_0_0).toLoadRect) (S := Finset.univ) (q := fullShare) (f := z) (Finset.subset_univ _)) $$ Hz
  iintro Hz
  iapply (wp_store 𝒱 (c : Thread nD τ) none Set.univ (m := (Memref.whole cc0_scratch6 : Memref sig .tc .vmem S256x2048 .f32))
    (r := Rect.unit (s := S256x2048) ![0, 0] S256x2048.size inb_S256x2048_S256x2048_0_0) (w := k0_pay12 (F := F)) (Mk := Finset.univ) (S := Finset.univ) (f := z) (Finset.subset_univ _)) $$ Hz
  iintro Hz
  have hz : ((Memref.whole cc0_scratch6 : Memref sig .tc .vmem S256x2048 .f32).access (Rect.unit (s := S256x2048) ![0, 0] S256x2048.size inb_S256x2048_S256x2048_0_0)).write (Elt F) z (k0_pay12 (F := F)) Finset.univ
      = (k0_pay12 (F := F)) := by
    funext y
    have he : ((Memref.whole cc0_scratch6 : Memref sig .tc .vmem S256x2048 .f32).access (Rect.unit (s := S256x2048) ![0, 0] S256x2048.size inb_S256x2048_S256x2048_0_0)).emb y = y := by
      funext a
      refine Fin.ext ?_
      fin_cases a
      · change 0 + 1 * (y 0).val = _; dsimp; omega
      · change 0 + 1 * (y 1).val = _; dsimp; omega
    have := ((Memref.whole cc0_scratch6 : Memref sig .tc .vmem S256x2048 .f32).access (Rect.unit (s := S256x2048) ![0, 0] S256x2048.size inb_S256x2048_S256x2048_0_0)).write_emb_of_mem (Val := Elt F) z
      (k0_pay12 (F := F)) (M := Finset.univ) (x := y) (Finset.mem_univ _)
    rw [he] at this
    exact this
  ihave Hz := (Entails.of_eq (congrArg (fun g => ((c : Thread nD τ).loc cc0_scratch6 ↦{fullShare} g : sProp 𝕄)) hz)) $$ Hz
  iapply (flight_wait 𝒱 c (Memref.whole main_arg2) (Memref.whole cc0_scratch0) rfl) $$ [F0 HW]
  · isplitl [F0]; · iexact F0
    iexact HW
  iintro ⟨⟨HO, Ho⟩, H0, HW⟩
  iapply (offs_load 𝒱 c o (n := 1) _ _ rfl) $$ HO
  iintro HO
  iapply (offs_load 𝒱 c o (n := 0) _ _ rfl) $$ HO
  iintro HO
  iapply (cnt_store 𝒱 c o (n := 0) (by decide) _ _ rfl) $$ HC
  iintro HC
  iapply (offs_load 𝒱 c o (n := 2) _ _ rfl) $$ HO
  iintro HO
  iapply (offs_load 𝒱 c o (n := 1) _ _ rfl) $$ HO
  iintro HO
  iapply (cnt_store 𝒱 c o (n := 1) (by decide) _ _ rfl) $$ HC
  iintro HC
  iapply (offs_load 𝒱 c o (n := 3) _ _ rfl) $$ HO
  iintro HO
  iapply (offs_load 𝒱 c o (n := 2) _ _ rfl) $$ HO
  iintro HO
  iapply (cnt_store 𝒱 c o (n := 2) (by decide) _ _ rfl) $$ HC
  iintro HC
  iapply (offs_load 𝒱 c o (n := 4) _ _ rfl) $$ HO
  iintro HO
  iapply (offs_load 𝒱 c o (n := 3) _ _ rfl) $$ HO
  iintro HO
  iapply (cnt_store 𝒱 c o (n := 3) (by decide) _ _ rfl) $$ HC
  iintro HC
  iapply (offs_load 𝒱 c o (n := 5) _ _ rfl) $$ HO
  iintro HO
  iapply (offs_load 𝒱 c o (n := 4) _ _ rfl) $$ HO
  iintro HO
  sl_step
  isplitr; · ipureintro; rfl
  isplitl [Ho]; · iexact Ho
  isplitl [HO]; · iexact HO
  isplitl [HC]; · iexact HC
  isplitl [F1]; · iexact F1
  isplitl [F2]; · iexact F2
  isplitl [Hz]; · iexact Hz
  isplitl [H0]; · iexact H0
  iexact HW

/-- Part 8: the next eight counts. -/
theorem part8 (𝒱 : Variants) (c : Dev nD) (o : S17.Idx → Elt F .i32) :
    iprop(offsMem c o ∗ cntMem c o 4)
      ⊢ wp frame (wpE defs₀ 𝒱 (c : Thread nD τ) none) Set.univ
        (k0_part8 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (offAt o 5) (offAt o 4))
        (fun r => iprop(⌜r = ⟨⟩⌝ ∗ offsMem c o ∗ cntMem c o 12)) := by
  rw [k0_part8_eq_skeleton]
  unfold k0_part8_skel
  dsimp only
  iintro ⟨HO, HC⟩
  iapply (cnt_store 𝒱 c o (n := 4) (by decide) _ _ rfl) $$ HC
  iintro HC
  iapply (offs_load 𝒱 c o (n := 6) _ _ rfl) $$ HO
  iintro HO
  iapply (offs_load 𝒱 c o (n := 5) _ _ rfl) $$ HO
  iintro HO
  iapply (cnt_store 𝒱 c o (n := 5) (by decide) _ _ rfl) $$ HC
  iintro HC
  iapply (offs_load 𝒱 c o (n := 7) _ _ rfl) $$ HO
  iintro HO
  iapply (offs_load 𝒱 c o (n := 6) _ _ rfl) $$ HO
  iintro HO
  iapply (cnt_store 𝒱 c o (n := 6) (by decide) _ _ rfl) $$ HC
  iintro HC
  iapply (offs_load 𝒱 c o (n := 8) _ _ rfl) $$ HO
  iintro HO
  iapply (offs_load 𝒱 c o (n := 7) _ _ rfl) $$ HO
  iintro HO
  iapply (cnt_store 𝒱 c o (n := 7) (by decide) _ _ rfl) $$ HC
  iintro HC
  iapply (offs_load 𝒱 c o (n := 9) _ _ rfl) $$ HO
  iintro HO
  iapply (offs_load 𝒱 c o (n := 8) _ _ rfl) $$ HO
  iintro HO
  iapply (cnt_store 𝒱 c o (n := 8) (by decide) _ _ rfl) $$ HC
  iintro HC
  iapply (offs_load 𝒱 c o (n := 10) _ _ rfl) $$ HO
  iintro HO
  iapply (offs_load 𝒱 c o (n := 9) _ _ rfl) $$ HO
  iintro HO
  iapply (cnt_store 𝒱 c o (n := 9) (by decide) _ _ rfl) $$ HC
  iintro HC
  iapply (offs_load 𝒱 c o (n := 11) _ _ rfl) $$ HO
  iintro HO
  iapply (offs_load 𝒱 c o (n := 10) _ _ rfl) $$ HO
  iintro HO
  iapply (cnt_store 𝒱 c o (n := 10) (by decide) _ _ rfl) $$ HC
  iintro HC
  iapply (offs_load 𝒱 c o (n := 12) _ _ rfl) $$ HO
  iintro HO
  iapply (offs_load 𝒱 c o (n := 11) _ _ rfl) $$ HO
  iintro HO
  iapply (cnt_store 𝒱 c o (n := 11) (by decide) _ _ rfl) $$ HC
  iintro HC
  sl_step
  isplitr; · ipureintro; rfl
  isplitl [HO]; · iexact HO
  iexact HC

/-- All sixteen counts in place. -/
theorem cnt_all (c : Dev nD) (o : S17.Idx → Elt F .i32) :
    (cntMem c o 16 : sProp 𝕄) ⊢ ((c : Thread nD τ).loc cc0_scratch1 ↦{fullShare} (cntArr o : S16.Idx → Elt F .i32)) := by
  unfold cntMem
  iintro ⟨%f, %hf, Hf⟩
  have h : f = cntArr o := funext fun y => hf y (y 0).isLt
  subst h
  iexact Hf

/-- The windows in two: those of the experts with rows, and those of the experts with none. -/
theorem h_split (c : Dev nD) (o : S17.Idx → BitVec 32) (f : S16x2048x2048.Idx → Elt F .f32) :
    ((c : Thread nD τ).loc main_v0_0 ↦{fullShare} f : sProp 𝕄)
      = iprop(bigSep (Finset.range 16) (fun e => if busy o e = true then hE c f e else iprop(emp))
        ∗ bigSep (Finset.range 16) (fun e => if busy o e = true then iprop(emp) else hE c f e)) := by
  rw [h_windows]
  refine (bigSep_congr fun e _ => ?_).trans (bigSep_sep' _ _ _)
  by_cases h : busy o e = true
  · rw [if_pos h, if_pos h]; exact (equiv_iff.mp BI.sep_emp).symm
  · rw [if_neg h, if_neg h]; exact (equiv_iff.mp BI.emp_sep).symm

/-- A counted loop run by an invariant before a continuation. -/
theorem loop_bind (𝒱 : Variants) (c : Dev nD) {σ : Type} (L : Scf.Loop 32) (hok : L.OK) (init : σ)
    (body : Fin L.trips → σ → Prog (TpuEff nD τ sig (Elt F) Λ₀ .tc) σ) (I : ℕ → σ → sProp 𝕄)
    (hbody : ∀ (k : Fin L.trips) (acc : σ), I k acc ⊢ wp frame (wpE defs₀ 𝒱 (c : Thread nD τ) none) Set.univ (body k acc) (I (k.val + 1)))
    {β : Type} {K : σ → Prog (TpuEff nD τ sig (Elt F) Λ₀ .tc) β} {Q : β → sProp 𝕄} :
    I 0 init ⊢ iprop((∀ acc, I L.trips acc -∗ wp frame (wpE defs₀ 𝒱 (c : Thread nD τ) none) Set.univ (K acc) Q) -∗ wp frame (wpE defs₀ 𝒱 (c : Thread nD τ) none) Set.univ (Scf.Loop.for L hok init body >>= K) Q) :=
  Scf.wp_for_bind _ _ _ L.lb L.ub L.st hok init body I hbody

/-- The scales loaded whole. -/
theorem sc_load (𝒱 : Variants) (c : Dev nD) (sc : S256x32.Idx → Elt F .f32) {α : Type} {Q : α → sProp 𝕄}
    (inb : ∀ a, (![0, 0] : Fin 2 → ℕ) a + S256x32.size a ≤ S256x32.size a)
    {hl : (Memref.whole cc0_scratch3 : Memref sig .tc .vmem S256x32 .f32).view.LoadsAt (Rect.unit (s := S256x32) ![0, 0] S256x32.size inb).toLoadRect}
    {K : (S256x32.Idx → Elt F .f32) → Prog (TpuEff nD τ sig (Elt F) Λ₀ .tc) α} :
    ((c : Thread nD τ).loc cc0_scratch3 ↦{fullShare} sc) ⊢ iprop((((c : Thread nD τ).loc cc0_scratch3 ↦{fullShare} sc) -∗ wp frame (wpE defs₀ 𝒱 (c : Thread nD τ) none) Set.univ (K sc) Q)
      -∗ wp frame (wpE defs₀ 𝒱 (c : Thread nD τ) none) Set.univ (Prog.lift (.load (Memref.whole cc0_scratch3) (Rect.unit (s := S256x32) ![0, 0] S256x32.size inb).toLoadRect hl) >>= K) Q) := by
  have hval : (Memref.whole cc0_scratch3 : Memref sig .tc .vmem S256x32 .f32).view.readAt (Elt F) (Rect.unit (s := S256x32) ![0, 0] S256x32.size inb).toLoadRect sc = sc := by
    funext x
    refine congrArg sc ?_
    funext a
    refine Fin.ext ?_
    fin_cases a
    · change 0 + 1 * (x 0).val = _; dsimp; omega
    · change 0 + 1 * (x 1).val = _; dsimp; omega
  iintro Hsc Hk
  iapply (wp_load 𝒱 (c : Thread nD τ) none Set.univ (m := (Memref.whole cc0_scratch3 : Memref sig .tc .vmem S256x32 .f32))
    (r := (Rect.unit (s := S256x32) ![0, 0] S256x32.size inb).toLoadRect) (S := Finset.univ) (q := fullShare) (f := sc) (Finset.subset_univ _)) $$ Hsc
  iintro Hsc
  rw [hval]
  iapply Hk
  iexact Hsc

theorem zTok_eq (c : Dev nD) (z : S256x2048.Idx → Elt F .f32) (t : ℕ) :
    (zTok c z t : sProp 𝕄) = ((c : Thread nD τ).loc cc0_scratch6 ↦{Transfers.shareTokN fullShare t} z) := by
  show ((Memref.whole cc0_scratch6).view.loc (c : Thread nD τ) ↦[(View.whole cc0_scratch6).set]{Transfers.shareTokN fullShare t} z) = _
  rw [View.set_whole]

set_option maxHeartbeats 4000000 in
/-- Part 9: the last four counts, the zero windows sent, the counts sent, the codes and the scales waited for. -/
theorem part9 (𝒱 : Variants) (c : Dev nD) (o : S17.Idx → Elt F .i32) (co : S256x2048.Idx → Elt F .fp8e4m3) (sc : S256x32.Idx → Elt F .f32)
    (G f : S16x2048x2048.Idx → Elt F .f32) (hG : ∀ e k, busy o e = false → ∀ y ∈ W e k, G y = k0_pay12 (F := F) (inW y)) :
    iprop(offsMem c o ∗ cntMem c o 12 ∗ codesFly c co ∗ scalesFly c sc
        ∗ ((c : Thread nD τ).loc cc0_scratch6 ↦{fullShare} (k0_pay12 (F := F))) ∗ bigSep (Finset.range 16) (fun e => if busy o e = true then iprop(emp) else hE c f e)
        ∗ (∃ g, (c : Thread nD τ).loc main_v0_1 ↦{fullShare} g) ∗ sem0 c 3 ∗ sem0 c 4 ∗ owesSome c)
      ⊢ wp frame (wpE defs₀ 𝒱 (c : Thread nD τ) none) Set.univ
        (k0_part9 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
        (fun r => iprop(⌜r = ⟨k0_pay13 sc, iota .tc S256x128 32 [1] iota_S256x128_d1_w32, k0_pay14 sc, k0_pay15 sc, 64#32⟩⌝
          ∗ offsMem c o ∗ countsFly c o ∗ (((c : Thread nD τ).loc cc0_scratch2 ↦{fullShare} co) ∗ ((c : Thread nD τ).loc main_arg0 ↦{fullShare} co))
          ∗ (((c : Thread nD τ).loc cc0_scratch3 ↦{fullShare} sc) ∗ ((c : Thread nD τ).loc main_arg1 ↦{fullShare} sc)) ∗ sem0 c 1 ∗ sem0 c 2
          ∗ zBatch c o (k0_pay12 (F := F)) G (8 * idle o 16) 0 ∗ bigSep (Finset.Ico (8 * idle o 16) 128) (zTok c (k0_pay12 (F := F)))
          ∗ ((c : Thread nD τ).loc cc0_scratch6 ↦{Transfers.shareDrop fullShare 128} (k0_pay12 (F := F))) ∗ owesSome c)) := by
  rw [k0_part9_eq_skeleton]
  unfold k0_part9_skel
  dsimp only
  iintro ⟨HO, HC, F1, F2, Hz, Hh, Hct, H3, H4, HW⟩
  iapply (offs_load 𝒱 c o (n := 13) _ _ rfl) $$ HO
  iintro HO
  iapply (offs_load 𝒱 c o (n := 12) _ _ rfl) $$ HO
  iintro HO
  iapply (cnt_store 𝒱 c o (n := 12) (by decide) _ _ rfl) $$ HC
  iintro HC
  iapply (offs_load 𝒱 c o (n := 14) _ _ rfl) $$ HO
  iintro HO
  iapply (offs_load 𝒱 c o (n := 13) _ _ rfl) $$ HO
  iintro HO
  iapply (cnt_store 𝒱 c o (n := 13) (by decide) _ _ rfl) $$ HC
  iintro HC
  iapply (offs_load 𝒱 c o (n := 15) _ _ rfl) $$ HO
  iintro HO
  iapply (offs_load 𝒱 c o (n := 14) _ _ rfl) $$ HO
  iintro HO
  iapply (cnt_store 𝒱 c o (n := 14) (by decide) _ _ rfl) $$ HC
  iintro HC
  iapply (offs_load 𝒱 c o (n := 16) _ _ rfl) $$ HO
  iintro HO
  iapply (offs_load 𝒱 c o (n := 15) _ _ rfl) $$ HO
  iintro HO
  iapply (cnt_store 𝒱 c o (n := 15) (by decide) _ _ rfl) $$ HC
  iintro HC
  ihave HC := (cnt_all c o) $$ HC
  ihave Hz := (Transfers.pointsTo_toks_range fullShare 128).1 $$ Hz
  icases Hz with ⟨Hzr, Hz⟩
  imod (Transfers.batch_alloc' (EC (F := F)) (c : Thread nD τ) () NN (fun t : Fin (8 * idle o 16) => zDel c o (k0_pay12 (F := F)) G t.val)) $$ H4 with HB
  iapply (loop_bind 𝒱 c k0_t1_loop k0_t1_ok () _ (t1Inv c o (k0_pay12 (F := F)) G f) (t1_step 𝒱 c o (k0_pay12 (F := F)) G f hG)) $$ [HO HB Hh Hz]
  · unfold t1Inv
    rw [idle_zero, Nat.mul_zero, ← Finset.range_eq_Ico, ← Finset.range_eq_Ico]
    isplitl [HO]; · iexact HO
    isplitl [HB]; · iexact HB
    isplitl [Hh]; · iexact Hh
    iapply (Entails.of_eq (bigSep_congr fun t _ => (zTok_eq c (k0_pay12 (F := F)) t).symm)) $$ Hz
  iintro %acc
  rw [t1_trips]
  unfold t1Inv
  iintro ⟨HO, HB, -, Hz⟩
  iapply (whole_issue 𝒱 c (Memref.whole cc0_scratch1) (Memref.whole main_v0_1) (View.set_whole _) (View.set_whole _) (sm := 3) (by decide +kernel) (cntArr o) (cntArr o)
    (fun fd => View.write_whole_univ _ _ _)) $$ [HC Hct H3]
  · isplitl [HC]; · iexact HC
    isplitl [Hct]; · iexact Hct
    iexact H3
  iintro F3
  iapply (flight_wait 𝒱 c (Memref.whole main_arg0) (Memref.whole cc0_scratch2) rfl) $$ [F1 HW]
  · isplitl [F1]; · iexact F1
    iexact HW
  iintro ⟨Hco, H1, HW⟩
  iapply (flight_wait 𝒱 c (Memref.whole main_arg1) (Memref.whole cc0_scratch3) rfl) $$ [F2 HW]
  · isplitl [F2]; · iexact F2
    iexact HW
  iintro ⟨⟨Hsc, Hsc'⟩, H2, HW⟩
  iapply (sc_load 𝒱 c sc _) $$ Hsc
  iintro Hsc
  sl_step
  isplitr; · ipureintro; rfl
  isplitl [HO]; · iexact HO
  isplitl [F3]; · iexact F3
  isplitl [Hco]; · iexact Hco
  isplitl [Hsc Hsc']
  · isplitl [Hsc]; · iexact Hsc
    iexact Hsc'
  isplitl [H1]; · iexact H1
  isplitl [H2]; · iexact H2
  isplitl [HB]; · iexact HB
  isplitl [Hz]; · iexact Hz
  isplitl [Hzr]; · iexact Hzr
  iexact HW

end Cert.Proof.KernelIdeal

end
-- ==== Proof.KernelIdeal.Dequant.lean ====
/-
  The operand of the products: codes times scales, group by group of 128 lanes, stored plain and transposed.
-/
module

public import proofs.«01_k».proof.Proof.KernelIdeal.Front
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The operand -/

/-- Row `r`, column `j` of the scales. -/
def sIx (r j : ℕ) (hr : r < 256) (hj : j < 32) : S256x32.Idx
  | ⟨0, _⟩ => ⟨r, hr⟩
  | ⟨1, _⟩ => ⟨j, hj⟩

/-- Row `r`, column `d` of the operand. -/
def xIx (r d : ℕ) (hr : r < 256) (hd : d < 2048) : S256x2048.Idx
  | ⟨0, _⟩ => ⟨r, hr⟩
  | ⟨1, _⟩ => ⟨d, hd⟩

/-- The scale of each element: one for each 64 columns of a row, rounded to bf16. -/
def scaleOf (sc : S256x32.Idx → Elt F .f32) : FVec F S256x2048 .f32 := fun y =>
  k0_pay13 (F := F) sc (sIx (y 0).val ((y 1).val / 64) (y 0).isLt (by have h : (y 1).val < 2048 := (y 1).isLt; omega))

/-- The operand: codes times scales. -/
def xsVal (co : S256x2048.Idx → Elt F .fp8e4m3) (sc : S256x32.Idx → Elt F .f32) : FVec F S256x2048 .bf16 :=
  mulf (extf .bf16 co bitsLt_fp8e4m3_bf16) (truncf .bf16 (scaleOf sc) bitsLt_bf16_f32)

/-- The operand transposed. -/
def xtVal (co : S256x2048.Idx → Elt F .fp8e4m3) (sc : S256x32.Idx → Elt F .f32) : FVec F S2048x256 .bf16 := fun y =>
  xsVal co sc (xIx (y 1).val (y 0).val (y 1).isLt (y 0).isLt)

/-- The element of the operand that lane `x` of group `g` is. -/
def inG (g : ℕ) (hg : g < 16) (x : S256x128.Idx) : S256x2048.Idx :=
  xIx (x 0).val (128 * g + (x 1).val) (x 0).isLt (by have h : (x 1).val < 128 := (x 1).isLt; omega)

/-- Group `g` of the codes. -/
def codesAt (co : S256x2048.Idx → Elt F .fp8e4m3) (g : ℕ) (hg : g < 16) : S256x128.Idx → Elt F .fp8e4m3 := fun x => co (inG g hg x)

/-- A column of the scales, repeated over 128 lanes. -/
theorem col_eval (v : S256x32.Idx → Elt F .f32) (j : ℕ) (hj : j < 32) (h : S256x32.Slices ![0, j] S256x1) :
    broadcastTo S256x128 (shapeCast S256x1 (extractStridedSlice S256x1 ![0, j] v h) shapeCasts_S256x1_S256x1) broadcasts_S256x1_S256x128
      = fun x => v (sIx (x 0).val j (x 0).isLt hj) := by
  rw [shapeCast_self]
  funext x
  refine congrArg v ?_
  funext a
  refine Fin.ext ?_
  fin_cases a
  · change 0 + (x 0).val = (x 0).val; omega
  · change j + 0 = j; omega

/-- The lanes from 64 on, as the kernel selects them. -/
theorem lane_ge : ∀ n : Fin 128, (IntOp.cmpi .sge (BitVec.ofNat 32 n.val) 64#32 = 1#1) ↔ 64 ≤ n.val := by decide

/-- One group of the operand: the kernel takes column `2 g` of the scales for the first 64 lanes, column `2 g + 1` for the others. -/
theorem grp_val (co : S256x2048.Idx → Elt F .fp8e4m3) (sc : S256x32.Idx → Elt F .f32) (g : ℕ) (hg : g < 16)
    {va vb : FVec F S256x128 .f32} (ha : va = fun x => k0_pay13 (F := F) sc (sIx (x 0).val (2 * g) (x 0).isLt (by omega)))
    (hb : vb = fun x => k0_pay13 (F := F) sc (sIx (x 0).val (2 * g + 1) (x 0).isLt (by omega))) :
    k0_pay16 (F := F) (iota .tc S256x128 32 [1] iota_S256x128_d1_w32) va vb 64#32 (codesAt co g hg) = fun x => xsVal co sc (inG g hg x) := by
  subst ha hb
  funext x
  have hx : (x 1).val < 128 := (x 1).isLt
  unfold k0_pay16 xsVal
  dsimp only
  show FloatOps.mulf _ (FloatOps.truncf .bf16 bitsLt_bf16_f32 (if IntOp.cmpi .sge _ 64#32 = 1#1 then _ else _)) = FloatOps.mulf _ (FloatOps.truncf .bf16 bitsLt_bf16_f32 _)
  refine congrArg (fun t => FloatOps.mulf (FloatOps.extf .bf16 bitsLt_fp8e4m3_bf16 (co (inG g hg x))) (FloatOps.truncf .bf16 bitsLt_bf16_f32 t)) ?_
  rw [iota_single_apply]
  have hi : ∀ j (hj : j < 32), (128 * g + (x 1).val) / 64 = j → k0_pay13 (F := F) sc (sIx (x 0).val j (x 0).isLt hj) = scaleOf sc (inG g hg x) := by
    intro j hj h
    subst h
    rfl
  by_cases h64 : 64 ≤ (x 1).val
  · rw [if_pos ((lane_ge ⟨(x 1).val, hx⟩).mpr h64)]
    exact hi _ _ (by omega)
  · rw [if_neg (fun h => h64 ((lane_ge ⟨(x 1).val, hx⟩).mp h))]
    exact hi _ _ (by omega)

/-- Group `g` as it is stored into the plain operand. -/
theorem grp_xs (co : S256x2048.Idx → Elt F .fp8e4m3) (sc : S256x32.Idx → Elt F .f32) (g : ℕ) (hg : g < 16)
    {va vb : FVec F S256x128 .f32} (ha : va = fun x => k0_pay13 (F := F) sc (sIx (x 0).val (2 * g) (x 0).isLt (by omega)))
    (hb : vb = fun x => k0_pay13 (F := F) sc (sIx (x 0).val (2 * g + 1) (x 0).isLt (by omega))) :
    k0_pay17 (F := F) (iota .tc S256x128 32 [1] iota_S256x128_d1_w32) va vb 64#32 (codesAt co g hg) = fun x => xsVal co sc (inG g hg x) :=
  (shapeCast_self _ _).trans (grp_val co sc g hg ha hb)

/-- The element of the transposed operand that row `x` of group `g` is. -/
def inGT (g : ℕ) (hg : g < 16) (x : S128x256.Idx) : S2048x256.Idx
  | ⟨0, _⟩ => ⟨128 * g + (x 0).val, by have h : (x 0).val < 128 := (x 0).isLt; show _ < 2048; omega⟩
  | ⟨1, _⟩ => ⟨(x 1).val, (x 1).isLt⟩

/-- Group `g` as it is stored into the transposed operand. -/
theorem grp_xt (co : S256x2048.Idx → Elt F .fp8e4m3) (sc : S256x32.Idx → Elt F .f32) (g : ℕ) (hg : g < 16)
    {va vb : FVec F S256x128 .f32} (ha : va = fun x => k0_pay13 (F := F) sc (sIx (x 0).val (2 * g) (x 0).isLt (by omega)))
    (hb : vb = fun x => k0_pay13 (F := F) sc (sIx (x 0).val (2 * g + 1) (x 0).isLt (by omega))) :
    k0_pay18 (F := F) (iota .tc S256x128 32 [1] iota_S256x128_d1_w32) va vb 64#32 (codesAt co g hg) = fun x => xtVal co sc (inGT g hg x) := by
  refine (shapeCast_self _ _).trans ?_
  rw [grp_val co sc g hg ha hb]
  funext x
  refine (transpose_apply _ _ _ x (fun | ⟨0, _⟩ => ⟨(x 1).val, (x 1).isLt⟩ | ⟨1, _⟩ => ⟨(x 0).val, (x 0).isLt⟩) ?_).trans rfl
  intro b
  fin_cases b <;> rfl

/-! ## The group's operations -/

/-- The codes in the kernel's memory. -/
abbrev codesMem (c : Dev nD) (co : S256x2048.Idx → Elt F .fp8e4m3) : sProp 𝕄 := (c : Thread nD τ).loc cc0_scratch2 ↦{fullShare} co

/-- The two operands' memory, the first `n` groups in place. -/
def deqMem (c : Dev nD) (co : S256x2048.Idx → Elt F .fp8e4m3) (sc : S256x32.Idx → Elt F .f32) (n : ℕ) : sProp 𝕄 :=
  iprop((∃ f : S256x2048.Idx → Elt F .bf16, ⌜∀ y, (y 1).val < 128 * n → f y = xsVal co sc y⌝ ∗ ((c : Thread nD τ).loc cc0_scratch4 ↦{fullShare} f))
    ∗ (∃ f : S2048x256.Idx → Elt F .bf16, ⌜∀ y, (y 0).val < 128 * n → f y = xtVal co sc y⌝ ∗ ((c : Thread nD τ).loc cc0_scratch5 ↦{fullShare} f)))

/-- All sixteen groups in place: the operands. -/
theorem deq_all (c : Dev nD) (co : S256x2048.Idx → Elt F .fp8e4m3) (sc : S256x32.Idx → Elt F .f32) :
    deqMem c co sc 16 ⊢ opsMem c (xsVal co sc) (xtVal co sc) := by
  unfold deqMem opsMem
  iintro ⟨⟨%f, %hf, Hf⟩, ⟨%g, %hg, Hg⟩⟩
  have h : f = xsVal co sc := funext fun y => hf y (y 1).isLt
  have h' : g = xtVal co sc := funext fun y => hg y (y 0).isLt
  subst h h'
  isplitl [Hf]; · iexact Hf
  iexact Hg

theorem xs_write (co : S256x2048.Idx → Elt F .fp8e4m3) (sc : S256x32.Idx → Elt F .f32) (g : ℕ) (hg : g < 16) (off : Fin 2 → ℕ)
    (inb : ∀ a, off a + S256x128.size a ≤ S256x2048.size a) (hoff : off = ![0, 128 * g]) (f : S256x2048.Idx → Elt F .bf16) (w : S256x128.Idx → Elt F .bf16)
    (hw : w = fun x => xsVal co sc (inG g hg x)) (hf : ∀ y : S256x2048.Idx, (y 1).val < 128 * g → f y = xsVal co sc y) (y : S256x2048.Idx) (hy : (y 1).val < 128 * (g + 1)) :
    ((Memref.whole cc0_scratch4 : Memref sig .tc .vmem S256x2048 .bf16).access (Rect.unit (s := S256x2048) off S256x128.size inb)).write (Elt F) f w Finset.univ y
      = xsVal co sc y := by
  subst hoff hw
  by_cases hyn : 128 * g ≤ (y 1).val
  · have hx : (y 1).val - 128 * g < 128 := by omega
    have hi : inG g hg (fun | ⟨0, _⟩ => ⟨(y 0).val, (y 0).isLt⟩ | ⟨1, _⟩ => ⟨(y 1).val - 128 * g, hx⟩) = y := by
      funext a
      refine Fin.ext ?_
      fin_cases a
      · rfl
      · change 128 * g + ((y 1).val - 128 * g) = (y 1).val; omega
    have he : ((Memref.whole cc0_scratch4 : Memref sig .tc .vmem S256x2048 .bf16).access (Rect.unit (s := S256x2048) ![0, 128 * g] S256x128.size inb)).emb
        (fun | ⟨0, _⟩ => ⟨(y 0).val, (y 0).isLt⟩ | ⟨1, _⟩ => ⟨(y 1).val - 128 * g, hx⟩) = y := by
      funext a
      refine Fin.ext ?_
      fin_cases a
      · change 0 + 1 * (y 0).val = (y 0).val; omega
      · change 128 * g + 1 * ((y 1).val - 128 * g) = (y 1).val; omega
    have := ((Memref.whole cc0_scratch4 : Memref sig .tc .vmem S256x2048 .bf16).access (Rect.unit (s := S256x2048) ![0, 128 * g] S256x128.size inb)).write_emb_of_mem (Val := Elt F) f
      (fun x => xsVal co sc (inG g hg x)) (M := Finset.univ) (x := fun | ⟨0, _⟩ => ⟨(y 0).val, (y 0).isLt⟩ | ⟨1, _⟩ => ⟨(y 1).val - 128 * g, hx⟩) (Finset.mem_univ _)
    rw [he] at this
    exact this.trans (congrArg (xsVal co sc) hi)
  · rw [View.write_of_not_mem]
    · exact hf y (by omega)
    · intro hm
      have hm : y ∈ ((View.whole cc0_scratch4).slice (Rect.unit (s := S256x2048) ![0, 128 * g] S256x128.size inb)).set := hm
      rw [View.set_slice_whole] at hm
      have := (Rect.mem_set_unit.mp hm) 1
      change 128 * g ≤ (y 1).val ∧ (y 1).val < 128 * g + 128 at this
      omega

theorem xt_write (co : S256x2048.Idx → Elt F .fp8e4m3) (sc : S256x32.Idx → Elt F .f32) (g : ℕ) (hg : g < 16) (off : Fin 2 → ℕ)
    (inb : ∀ a, off a + S128x256.size a ≤ S2048x256.size a) (hoff : off = ![128 * g, 0]) (f : S2048x256.Idx → Elt F .bf16) (w : S128x256.Idx → Elt F .bf16)
    (hw : w = fun x => xtVal co sc (inGT g hg x)) (hf : ∀ y : S2048x256.Idx, (y 0).val < 128 * g → f y = xtVal co sc y) (y : S2048x256.Idx) (hy : (y 0).val < 128 * (g + 1)) :
    ((Memref.whole cc0_scratch5 : Memref sig .tc .vmem S2048x256 .bf16).access (Rect.unit (s := S2048x256) off S128x256.size inb)).write (Elt F) f w Finset.univ y
      = xtVal co sc y := by
  subst hoff hw
  by_cases hyn : 128 * g ≤ (y 0).val
  · have hx : (y 0).val - 128 * g < 128 := by omega
    have hi : inGT g hg (fun | ⟨0, _⟩ => ⟨(y 0).val - 128 * g, hx⟩ | ⟨1, _⟩ => ⟨(y 1).val, (y 1).isLt⟩) = y := by
      funext a
      refine Fin.ext ?_
      fin_cases a
      · change 128 * g + ((y 0).val - 128 * g) = (y 0).val; omega
      · rfl
    have he : ((Memref.whole cc0_scratch5 : Memref sig .tc .vmem S2048x256 .bf16).access (Rect.unit (s := S2048x256) ![128 * g, 0] S128x256.size inb)).emb
        (fun | ⟨0, _⟩ => ⟨(y 0).val - 128 * g, hx⟩ | ⟨1, _⟩ => ⟨(y 1).val, (y 1).isLt⟩) = y := by
      funext a
      refine Fin.ext ?_
      fin_cases a
      · change 128 * g + 1 * ((y 0).val - 128 * g) = (y 0).val; omega
      · change 0 + 1 * (y 1).val = (y 1).val; omega
    have := ((Memref.whole cc0_scratch5 : Memref sig .tc .vmem S2048x256 .bf16).access (Rect.unit (s := S2048x256) ![128 * g, 0] S128x256.size inb)).write_emb_of_mem (Val := Elt F) f
      (fun x => xtVal co sc (inGT g hg x)) (M := Finset.univ) (x := fun | ⟨0, _⟩ => ⟨(y 0).val - 128 * g, hx⟩ | ⟨1, _⟩ => ⟨(y 1).val, (y 1).isLt⟩) (Finset.mem_univ _)
    rw [he] at this
    exact this.trans (congrArg (xtVal co sc) hi)
  · rw [View.write_of_not_mem]
    · exact hf y (by omega)
    · intro hm
      have hm : y ∈ ((View.whole cc0_scratch5).slice (Rect.unit (s := S2048x256) ![128 * g, 0] S128x256.size inb)).set := hm
      rw [View.set_slice_whole] at hm
      have := (Rect.mem_set_unit.mp hm) 0
      change 128 * g ≤ (y 0).val ∧ (y 0).val < 128 * g + 128 at this
      omega

/-- One group: its codes loaded, its product stored plain and transposed (the kernel loads each block first and drops
    what it read). -/
theorem group_step (𝒱 : Variants) (c : Dev nD) (co : S256x2048.Idx → Elt F .fp8e4m3) (sc : S256x32.Idx → Elt F .f32) (g : ℕ) (hg : g < 16)
    {α : Type} {Q : α → sProp 𝕄} (w : (S256x128.Idx → Elt F .fp8e4m3) → S256x128.Idx → Elt F .bf16) (wt : (S256x128.Idx → Elt F .fp8e4m3) → S128x256.Idx → Elt F .bf16)
    (hw : w (codesAt co g hg) = fun x => xsVal co sc (inG g hg x)) (hwt : wt (codesAt co g hg) = fun x => xtVal co sc (inGT g hg x))
    (off : Fin 2 → ℕ) (inb : ∀ a, off a + S256x128.size a ≤ S256x2048.size a) (hoff : off = ![0, 128 * g])
    (offt : Fin 2 → ℕ) (inbt : ∀ a, offt a + S128x256.size a ≤ S2048x256.size a) (hofft : offt = ![128 * g, 0])
    {hl : (Memref.whole cc0_scratch2 : Memref sig .tc .vmem S256x2048 .fp8e4m3).view.LoadsAt (Rect.unit (s := S256x2048) off S256x128.size inb).toLoadRect}
    {hl9 : (Memref.whole cc0_scratch4 : Memref sig .tc .vmem S256x2048 .bf16).view.LoadsAt (Rect.unit (s := S256x2048) off S256x128.size inb).toLoadRect}
    {hx9 : ((Memref.whole cc0_scratch4 : Memref sig .tc .vmem S256x2048 .bf16).access (Rect.unit (s := S256x2048) off S256x128.size inb)).Stores Finset.univ}
    {hm9 : (Finset.univ : Finset (Rect.unit (s := S256x2048) off S256x128.size inb).shape.Idx) = Finset.univ ∨ ∀ a, (Rect.unit (s := S256x2048) off S256x128.size inb).stride a = 1}
    {hl10 : (Memref.whole cc0_scratch5 : Memref sig .tc .vmem S2048x256 .bf16).view.LoadsAt (Rect.unit (s := S2048x256) offt S128x256.size inbt).toLoadRect}
    {hx10 : ((Memref.whole cc0_scratch5 : Memref sig .tc .vmem S2048x256 .bf16).access (Rect.unit (s := S2048x256) offt S128x256.size inbt)).Stores Finset.univ}
    {hm10 : (Finset.univ : Finset (Rect.unit (s := S2048x256) offt S128x256.size inbt).shape.Idx) = Finset.univ ∨ ∀ a, (Rect.unit (s := S2048x256) offt S128x256.size inbt).stride a = 1}
    {K : PUnit → Prog (TpuEff nD τ sig (Elt F) Λ₀ .tc) α} :
    iprop(codesMem c co ∗ deqMem c co sc g)
      ⊢ iprop((codesMem c co ∗ deqMem c co sc (g + 1) -∗ wp frame (wpE defs₀ 𝒱 (c : Thread nD τ) none) Set.univ (K ⟨⟩) Q)
        -∗ wp frame (wpE defs₀ 𝒱 (c : Thread nD τ) none) Set.univ
          (Prog.lift (.load (Memref.whole cc0_scratch2) (Rect.unit (s := S256x2048) off S256x128.size inb).toLoadRect hl) >>= fun b =>
            Prog.lift (.load (Memref.whole cc0_scratch4) (Rect.unit (s := S256x2048) off S256x128.size inb).toLoadRect hl9) >>= fun _ =>
            Prog.lift (.store (Memref.whole cc0_scratch4) (Rect.unit (s := S256x2048) off S256x128.size inb) (w b) Finset.univ hx9 hm9) >>= fun _ =>
            Prog.lift (.load (Memref.whole cc0_scratch5) (Rect.unit (s := S2048x256) offt S128x256.size inbt).toLoadRect hl10) >>= fun _ =>
            Prog.lift (.store (Memref.whole cc0_scratch5) (Rect.unit (s := S2048x256) offt S128x256.size inbt) (wt b) Finset.univ hx10 hm10) >>= K) Q) := by
  have hval : (Memref.whole cc0_scratch2 : Memref sig .tc .vmem S256x2048 .fp8e4m3).view.readAt (Elt F) (Rect.unit (s := S256x2048) off S256x128.size inb).toLoadRect co = codesAt co g hg := by
    subst hoff
    funext x
    refine congrArg co ?_
    funext a
    refine Fin.ext ?_
    fin_cases a
    · change 0 + 1 * (x 0).val = (x 0).val; omega
    · change 128 * g + 1 * (x 1).val = 128 * g + (x 1).val; omega
  unfold deqMem
  iintro ⟨Hc, ⟨⟨%f, %hf, Hf⟩, ⟨%f', %hf', Hf'⟩⟩⟩ Hk
  iapply (wp_load 𝒱 (c : Thread nD τ) none Set.univ (m := (Memref.whole cc0_scratch2 : Memref sig .tc .vmem S256x2048 .fp8e4m3))
    (r := (Rect.unit (s := S256x2048) off S256x128.size inb).toLoadRect) (S := Finset.univ) (q := fullShare) (f := co) (Finset.subset_univ _)) $$ Hc
  iintro Hc
  rw [hval]
  iapply (wp_load 𝒱 (c : Thread nD τ) none Set.univ (m := (Memref.whole cc0_scratch4 : Memref sig .tc .vmem S256x2048 .bf16))
    (r := (Rect.unit (s := S256x2048) off S256x128.size inb).toLoadRect) (S := Finset.univ) (q := fullShare) (f := f) (Finset.subset_univ _)) $$ Hf
  iintro Hf
  iapply (wp_store 𝒱 (c : Thread nD τ) none Set.univ (m := (Memref.whole cc0_scratch4 : Memref sig .tc .vmem S256x2048 .bf16))
    (r := Rect.unit (s := S256x2048) off S256x128.size inb) (w := w (codesAt co g hg)) (Mk := Finset.univ) (S := Finset.univ) (f := f) (Finset.subset_univ _)) $$ Hf
  iintro Hf
  iapply (wp_load 𝒱 (c : Thread nD τ) none Set.univ (m := (Memref.whole cc0_scratch5 : Memref sig .tc .vmem S2048x256 .bf16))
    (r := (Rect.unit (s := S2048x256) offt S128x256.size inbt).toLoadRect) (S := Finset.univ) (q := fullShare) (f := f') (Finset.subset_univ _)) $$ Hf'
  iintro Hf'
  iapply (wp_store 𝒱 (c : Thread nD τ) none Set.univ (m := (Memref.whole cc0_scratch5 : Memref sig .tc .vmem S2048x256 .bf16))
    (r := Rect.unit (s := S2048x256) offt S128x256.size inbt) (w := wt (codesAt co g hg)) (Mk := Finset.univ) (S := Finset.univ) (f := f') (Finset.subset_univ _)) $$ Hf'
  iintro Hf'
  iapply Hk
  isplitl [Hc]; · iexact Hc
  isplitl [Hf]
  · iexists (((Memref.whole cc0_scratch4 : Memref sig .tc .vmem S256x2048 .bf16).access (Rect.unit (s := S256x2048) off S256x128.size inb)).write (Elt F) f (w (codesAt co g hg)) Finset.univ)
    isplitr
    · ipureintro
      exact xs_write co sc g hg off inb hoff f _ hw hf
    iexact Hf
  · iexists (((Memref.whole cc0_scratch5 : Memref sig .tc .vmem S2048x256 .bf16).access (Rect.unit (s := S2048x256) offt S128x256.size inbt)).write (Elt F) f' (wt (codesAt co g hg)) Finset.univ)
    isplitr
    · ipureintro
      exact xt_write co sc g hg offt inbt hofft f' _ hwt hf'
    iexact Hf'

end Cert.Proof.KernelIdeal

end
-- ==== Proof.KernelIdeal.Groups.lean ====
/-
  The sixteen groups of the operand, two to each piece the kernel's body is cut into; the last piece also runs the loop
  over the experts.
-/
module

public import proofs.«01_k».proof.Proof.KernelIdeal.Dequant

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 4000000 in
/-- Groups 0 and 1. -/
theorem part10 (𝒱 : Variants) (c : Dev nD) (co : S256x2048.Idx → Elt F .fp8e4m3) (sc : S256x32.Idx → Elt F .f32) :
    iprop(codesMem c co ∗ deqMem c co sc 0)
      ⊢ wp frame (wpE defs₀ 𝒱 (c : Thread nD τ) none) Set.univ
        (k0_part10 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay14 (F := F) sc) (k0_pay15 (F := F) sc) 64#32)
        (fun r => iprop(⌜r = ⟨(iota .tc S256x128 32 [1] iota_S256x128_d1_w32), k0_pay22 (k0_pay13 sc), k0_pay23 (k0_pay13 sc), 64#32⟩⌝ ∗ codesMem c co ∗ deqMem c co sc 2)) := by
  rw [k0_part10_eq_skeleton]
  unfold k0_part10_skel
  dsimp only
  iintro ⟨Hc, Hd⟩
  iapply (group_step 𝒱 c co sc 0 (by decide) (fun b => k0_pay17 (F := F) (iota .tc S256x128 32 [1] iota_S256x128_d1_w32) (k0_pay14 (F := F) sc) (k0_pay15 (F := F) sc) 64#32 b)
    (fun b => k0_pay18 (F := F) (iota .tc S256x128 32 [1] iota_S256x128_d1_w32) (k0_pay14 (F := F) sc) (k0_pay15 (F := F) sc) 64#32 b)
    (grp_xs co sc 0 (by decide) (col_eval (k0_pay13 (F := F) sc) 0 (by decide) slices_S256x32_o0_0_S256x1) (col_eval (k0_pay13 (F := F) sc) 1 (by decide) slices_S256x32_o0_1_S256x1))
    (grp_xt co sc 0 (by decide) (col_eval (k0_pay13 (F := F) sc) 0 (by decide) slices_S256x32_o0_0_S256x1) (col_eval (k0_pay13 (F := F) sc) 1 (by decide) slices_S256x32_o0_1_S256x1)) _ _ rfl _ _ rfl) $$ [Hc Hd]
  · isplitl [Hc]; · iexact Hc
    iexact Hd
  iintro ⟨Hc, Hd⟩
  iapply (group_step 𝒱 c co sc 1 (by decide) (fun b => k0_pay20 (F := F) (k0_pay13 sc) b)
    (fun b => k0_pay21 (F := F) (k0_pay13 sc) b)
    (grp_xs co sc 1 (by decide) (col_eval (k0_pay13 (F := F) sc) 2 (by decide) slices_S256x32_o0_2_S256x1) (col_eval (k0_pay13 (F := F) sc) 3 (by decide) slices_S256x32_o0_3_S256x1))
    (grp_xt co sc 1 (by decide) (col_eval (k0_pay13 (F := F) sc) 2 (by decide) slices_S256x32_o0_2_S256x1) (col_eval (k0_pay13 (F := F) sc) 3 (by decide) slices_S256x32_o0_3_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 2 and 3. -/
theorem part11 (𝒱 : Variants) (c : Dev nD) (co : S256x2048.Idx → Elt F .fp8e4m3) (sc : S256x32.Idx → Elt F .f32) :
    iprop(codesMem c co ∗ deqMem c co sc 2)
      ⊢ wp frame (wpE defs₀ 𝒱 (c : Thread nD τ) none) Set.univ
        (k0_part11 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay22 (F := F) (k0_pay13 sc)) (k0_pay23 (F := F) (k0_pay13 sc)) 64#32)
        (fun r => iprop(⌜r = ⟨(iota .tc S256x128 32 [1] iota_S256x128_d1_w32), k0_pay30 (k0_pay13 sc), k0_pay31 (k0_pay13 sc), 64#32⟩⌝ ∗ codesMem c co ∗ deqMem c co sc 4)) := by
  rw [k0_part11_eq_skeleton]
  unfold k0_part11_skel
  dsimp only
  iintro ⟨Hc, Hd⟩
  iapply (group_step 𝒱 c co sc 2 (by decide) (fun b => k0_pay25 (F := F) (iota .tc S256x128 32 [1] iota_S256x128_d1_w32) (k0_pay22 (F := F) (k0_pay13 sc)) (k0_pay23 (F := F) (k0_pay13 sc)) 64#32 b)
    (fun b => k0_pay26 (F := F) (iota .tc S256x128 32 [1] iota_S256x128_d1_w32) (k0_pay22 (F := F) (k0_pay13 sc)) (k0_pay23 (F := F) (k0_pay13 sc)) 64#32 b)
    (grp_xs co sc 2 (by decide) (col_eval (k0_pay13 (F := F) sc) 4 (by decide) slices_S256x32_o0_4_S256x1) (col_eval (k0_pay13 (F := F) sc) 5 (by decide) slices_S256x32_o0_5_S256x1))
    (grp_xt co sc 2 (by decide) (col_eval (k0_pay13 (F := F) sc) 4 (by decide) slices_S256x32_o0_4_S256x1) (col_eval (k0_pay13 (F := F) sc) 5 (by decide) slices_S256x32_o0_5_S256x1)) _ _ rfl _ _ rfl) $$ [Hc Hd]
  · isplitl [Hc]; · iexact Hc
    iexact Hd
  iintro ⟨Hc, Hd⟩
  iapply (group_step 𝒱 c co sc 3 (by decide) (fun b => k0_pay28 (F := F) (k0_pay13 sc) b)
    (fun b => k0_pay29 (F := F) (k0_pay13 sc) b)
    (grp_xs co sc 3 (by decide) (col_eval (k0_pay13 (F := F) sc) 6 (by decide) slices_S256x32_o0_6_S256x1) (col_eval (k0_pay13 (F := F) sc) 7 (by decide) slices_S256x32_o0_7_S256x1))
    (grp_xt co sc 3 (by decide) (col_eval (k0_pay13 (F := F) sc) 6 (by decide) slices_S256x32_o0_6_S256x1) (col_eval (k0_pay13 (F := F) sc) 7 (by decide) slices_S256x32_o0_7_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 4 and 5. -/
theorem part12 (𝒱 : Variants) (c : Dev nD) (co : S256x2048.Idx → Elt F .fp8e4m3) (sc : S256x32.Idx → Elt F .f32) :
    iprop(codesMem c co ∗ deqMem c co sc 4)
      ⊢ wp frame (wpE defs₀ 𝒱 (c : Thread nD τ) none) Set.univ
        (k0_part12 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay30 (F := F) (k0_pay13 sc)) (k0_pay31 (F := F) (k0_pay13 sc)) 64#32)
        (fun r => iprop(⌜r = ⟨(iota .tc S256x128 32 [1] iota_S256x128_d1_w32), k0_pay38 (k0_pay13 sc), k0_pay39 (k0_pay13 sc), 64#32⟩⌝ ∗ codesMem c co ∗ deqMem c co sc 6)) := by
  rw [k0_part12_eq_skeleton]
  unfold k0_part12_skel
  dsimp only
  iintro ⟨Hc, Hd⟩
  iapply (group_step 𝒱 c co sc 4 (by decide) (fun b => k0_pay33 (F := F) (iota .tc S256x128 32 [1] iota_S256x128_d1_w32) (k0_pay30 (F := F) (k0_pay13 sc)) (k0_pay31 (F := F) (k0_pay13 sc)) 64#32 b)
    (fun b => k0_pay34 (F := F) (iota .tc S256x128 32 [1] iota_S256x128_d1_w32) (k0_pay30 (F := F) (k0_pay13 sc)) (k0_pay31 (F := F) (k0_pay13 sc)) 64#32 b)
    (grp_xs co sc 4 (by decide) (col_eval (k0_pay13 (F := F) sc) 8 (by decide) slices_S256x32_o0_8_S256x1) (col_eval (k0_pay13 (F := F) sc) 9 (by decide) slices_S256x32_o0_9_S256x1))
    (grp_xt co sc 4 (by decide) (col_eval (k0_pay13 (F := F) sc) 8 (by decide) slices_S256x32_o0_8_S256x1) (col_eval (k0_pay13 (F := F) sc) 9 (by decide) slices_S256x32_o0_9_S256x1)) _ _ rfl _ _ rfl) $$ [Hc Hd]
  · isplitl [Hc]; · iexact Hc
    iexact Hd
  iintro ⟨Hc, Hd⟩
  iapply (group_step 𝒱 c co sc 5 (by decide) (fun b => k0_pay36 (F := F) (k0_pay13 sc) b)
    (fun b => k0_pay37 (F := F) (k0_pay13 sc) b)
    (grp_xs co sc 5 (by decide) (col_eval (k0_pay13 (F := F) sc) 10 (by decide) slices_S256x32_o0_10_S256x1) (col_eval (k0_pay13 (F := F) sc) 11 (by decide) slices_S256x32_o0_11_S256x1))
    (grp_xt co sc 5 (by decide) (col_eval (k0_pay13 (F := F) sc) 10 (by decide) slices_S256x32_o0_10_S256x1) (col_eval (k0_pay13 (F := F) sc) 11 (by decide) slices_S256x32_o0_11_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 6 and 7. -/
theorem part13 (𝒱 : Variants) (c : Dev nD) (co : S256x2048.Idx → Elt F .fp8e4m3) (sc : S256x32.Idx → Elt F .f32) :
    iprop(codesMem c co ∗ deqMem c co sc 6)
      ⊢ wp frame (wpE defs₀ 𝒱 (c : Thread nD τ) none) Set.univ
        (k0_part13 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay38 (F := F) (k0_pay13 sc)) (k0_pay39 (F := F) (k0_pay13 sc)) 64#32)
        (fun r => iprop(⌜r = ⟨(iota .tc S256x128 32 [1] iota_S256x128_d1_w32), k0_pay46 (k0_pay13 sc), k0_pay47 (k0_pay13 sc), 64#32⟩⌝ ∗ codesMem c co ∗ deqMem c co sc 8)) := by
  rw [k0_part13_eq_skeleton]
  unfold k0_part13_skel
  dsimp only
  iintro ⟨Hc, Hd⟩
  iapply (group_step 𝒱 c co sc 6 (by decide) (fun b => k0_pay41 (F := F) (iota .tc S256x128 32 [1] iota_S256x128_d1_w32) (k0_pay38 (F := F) (k0_pay13 sc)) (k0_pay39 (F := F) (k0_pay13 sc)) 64#32 b)
    (fun b => k0_pay42 (F := F) (iota .tc S256x128 32 [1] iota_S256x128_d1_w32) (k0_pay38 (F := F) (k0_pay13 sc)) (k0_pay39 (F := F) (k0_pay13 sc)) 64#32 b)
    (grp_xs co sc 6 (by decide) (col_eval (k0_pay13 (F := F) sc) 12 (by decide) slices_S256x32_o0_12_S256x1) (col_eval (k0_pay13 (F := F) sc) 13 (by decide) slices_S256x32_o0_13_S256x1))
    (grp_xt co sc 6 (by decide) (col_eval (k0_pay13 (F := F) sc) 12 (by decide) slices_S256x32_o0_12_S256x1) (col_eval (k0_pay13 (F := F) sc) 13 (by decide) slices_S256x32_o0_13_S256x1)) _ _ rfl _ _ rfl) $$ [Hc Hd]
  · isplitl [Hc]; · iexact Hc
    iexact Hd
  iintro ⟨Hc, Hd⟩
  iapply (group_step 𝒱 c co sc 7 (by decide) (fun b => k0_pay44 (F := F) (k0_pay13 sc) b)
    (fun b => k0_pay45 (F := F) (k0_pay13 sc) b)
    (grp_xs co sc 7 (by decide) (col_eval (k0_pay13 (F := F) sc) 14 (by decide) slices_S256x32_o0_14_S256x1) (col_eval (k0_pay13 (F := F) sc) 15 (by decide) slices_S256x32_o0_15_S256x1))
    (grp_xt co sc 7 (by decide) (col_eval (k0_pay13 (F := F) sc) 14 (by decide) slices_S256x32_o0_14_S256x1) (col_eval (k0_pay13 (F := F) sc) 15 (by decide) slices_S256x32_o0_15_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 8 and 9. -/
theorem part14 (𝒱 : Variants) (c : Dev nD) (co : S256x2048.Idx → Elt F .fp8e4m3) (sc : S256x32.Idx → Elt F .f32) :
    iprop(codesMem c co ∗ deqMem c co sc 8)
      ⊢ wp frame (wpE defs₀ 𝒱 (c : Thread nD τ) none) Set.univ
        (k0_part14 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay46 (F := F) (k0_pay13 sc)) (k0_pay47 (F := F) (k0_pay13 sc)) 64#32)
        (fun r => iprop(⌜r = ⟨(iota .tc S256x128 32 [1] iota_S256x128_d1_w32), k0_pay54 (k0_pay13 sc), k0_pay55 (k0_pay13 sc), 64#32⟩⌝ ∗ codesMem c co ∗ deqMem c co sc 10)) := by
  rw [k0_part14_eq_skeleton]
  unfold k0_part14_skel
  dsimp only
  iintro ⟨Hc, Hd⟩
  iapply (group_step 𝒱 c co sc 8 (by decide) (fun b => k0_pay49 (F := F) (iota .tc S256x128 32 [1] iota_S256x128_d1_w32) (k0_pay46 (F := F) (k0_pay13 sc)) (k0_pay47 (F := F) (k0_pay13 sc)) 64#32 b)
    (fun b => k0_pay50 (F := F) (iota .tc S256x128 32 [1] iota_S256x128_d1_w32) (k0_pay46 (F := F) (k0_pay13 sc)) (k0_pay47 (F := F) (k0_pay13 sc)) 64#32 b)
    (grp_xs co sc 8 (by decide) (col_eval (k0_pay13 (F := F) sc) 16 (by decide) slices_S256x32_o0_16_S256x1) (col_eval (k0_pay13 (F := F) sc) 17 (by decide) slices_S256x32_o0_17_S256x1))
    (grp_xt co sc 8 (by decide) (col_eval (k0_pay13 (F := F) sc) 16 (by decide) slices_S256x32_o0_16_S256x1) (col_eval (k0_pay13 (F := F) sc) 17 (by decide) slices_S256x32_o0_17_S256x1)) _ _ rfl _ _ rfl) $$ [Hc Hd]
  · isplitl [Hc]; · iexact Hc
    iexact Hd
  iintro ⟨Hc, Hd⟩
  iapply (group_step 𝒱 c co sc 9 (by decide) (fun b => k0_pay52 (F := F) (k0_pay13 sc) b)
    (fun b => k0_pay53 (F := F) (k0_pay13 sc) b)
    (grp_xs co sc 9 (by decide) (col_eval (k0_pay13 (F := F) sc) 18 (by decide) slices_S256x32_o0_18_S256x1) (col_eval (k0_pay13 (F := F) sc) 19 (by decide) slices_S256x32_o0_19_S256x1))
    (grp_xt co sc 9 (by decide) (col_eval (k0_pay13 (F := F) sc) 18 (by decide) slices_S256x32_o0_18_S256x1) (col_eval (k0_pay13 (F := F) sc) 19 (by decide) slices_S256x32_o0_19_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 10 and 11. -/
theorem part15 (𝒱 : Variants) (c : Dev nD) (co : S256x2048.Idx → Elt F .fp8e4m3) (sc : S256x32.Idx → Elt F .f32) :
    iprop(codesMem c co ∗ deqMem c co sc 10)
      ⊢ wp frame (wpE defs₀ 𝒱 (c : Thread nD τ) none) Set.univ
        (k0_part15 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay54 (F := F) (k0_pay13 sc)) (k0_pay55 (F := F) (k0_pay13 sc)) 64#32)
        (fun r => iprop(⌜r = ⟨(iota .tc S256x128 32 [1] iota_S256x128_d1_w32), k0_pay62 (k0_pay13 sc), k0_pay63 (k0_pay13 sc), 64#32⟩⌝ ∗ codesMem c co ∗ deqMem c co sc 12)) := by
  rw [k0_part15_eq_skeleton]
  unfold k0_part15_skel
  dsimp only
  iintro ⟨Hc, Hd⟩
  iapply (group_step 𝒱 c co sc 10 (by decide) (fun b => k0_pay57 (F := F) (iota .tc S256x128 32 [1] iota_S256x128_d1_w32) (k0_pay54 (F := F) (k0_pay13 sc)) (k0_pay55 (F := F) (k0_pay13 sc)) 64#32 b)
    (fun b => k0_pay58 (F := F) (iota .tc S256x128 32 [1] iota_S256x128_d1_w32) (k0_pay54 (F := F) (k0_pay13 sc)) (k0_pay55 (F := F) (k0_pay13 sc)) 64#32 b)
    (grp_xs co sc 10 (by decide) (col_eval (k0_pay13 (F := F) sc) 20 (by decide) slices_S256x32_o0_20_S256x1) (col_eval (k0_pay13 (F := F) sc) 21 (by decide) slices_S256x32_o0_21_S256x1))
    (grp_xt co sc 10 (by decide) (col_eval (k0_pay13 (F := F) sc) 20 (by decide) slices_S256x32_o0_20_S256x1) (col_eval (k0_pay13 (F := F) sc) 21 (by decide) slices_S256x32_o0_21_S256x1)) _ _ rfl _ _ rfl) $$ [Hc Hd]
  · isplitl [Hc]; · iexact Hc
    iexact Hd
  iintro ⟨Hc, Hd⟩
  iapply (group_step 𝒱 c co sc 11 (by decide) (fun b => k0_pay60 (F := F) (k0_pay13 sc) b)
    (fun b => k0_pay61 (F := F) (k0_pay13 sc) b)
    (grp_xs co sc 11 (by decide) (col_eval (k0_pay13 (F := F) sc) 22 (by decide) slices_S256x32_o0_22_S256x1) (col_eval (k0_pay13 (F := F) sc) 23 (by decide) slices_S256x32_o0_23_S256x1))
    (grp_xt co sc 11 (by decide) (col_eval (k0_pay13 (F := F) sc) 22 (by decide) slices_S256x32_o0_22_S256x1) (col_eval (k0_pay13 (F := F) sc) 23 (by decide) slices_S256x32_o0_23_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

set_option maxHeartbeats 4000000 in
/-- Groups 12 and 13. -/
theorem part16 (𝒱 : Variants) (c : Dev nD) (co : S256x2048.Idx → Elt F .fp8e4m3) (sc : S256x32.Idx → Elt F .f32) :
    iprop(codesMem c co ∗ deqMem c co sc 12)
      ⊢ wp frame (wpE defs₀ 𝒱 (c : Thread nD τ) none) Set.univ
        (k0_part16 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay62 (F := F) (k0_pay13 sc)) (k0_pay63 (F := F) (k0_pay13 sc)) 64#32)
        (fun r => iprop(⌜r = ⟨(iota .tc S256x128 32 [1] iota_S256x128_d1_w32), k0_pay70 (k0_pay13 sc), k0_pay71 (k0_pay13 sc), 64#32⟩⌝ ∗ codesMem c co ∗ deqMem c co sc 14)) := by
  rw [k0_part16_eq_skeleton]
  unfold k0_part16_skel
  dsimp only
  iintro ⟨Hc, Hd⟩
  iapply (group_step 𝒱 c co sc 12 (by decide) (fun b => k0_pay65 (F := F) (iota .tc S256x128 32 [1] iota_S256x128_d1_w32) (k0_pay62 (F := F) (k0_pay13 sc)) (k0_pay63 (F := F) (k0_pay13 sc)) 64#32 b)
    (fun b => k0_pay66 (F := F) (iota .tc S256x128 32 [1] iota_S256x128_d1_w32) (k0_pay62 (F := F) (k0_pay13 sc)) (k0_pay63 (F := F) (k0_pay13 sc)) 64#32 b)
    (grp_xs co sc 12 (by decide) (col_eval (k0_pay13 (F := F) sc) 24 (by decide) slices_S256x32_o0_24_S256x1) (col_eval (k0_pay13 (F := F) sc) 25 (by decide) slices_S256x32_o0_25_S256x1))
    (grp_xt co sc 12 (by decide) (col_eval (k0_pay13 (F := F) sc) 24 (by decide) slices_S256x32_o0_24_S256x1) (col_eval (k0_pay13 (F := F) sc) 25 (by decide) slices_S256x32_o0_25_S256x1)) _ _ rfl _ _ rfl) $$ [Hc Hd]
  · isplitl [Hc]; · iexact Hc
    iexact Hd
  iintro ⟨Hc, Hd⟩
  iapply (group_step 𝒱 c co sc 13 (by decide) (fun b => k0_pay68 (F := F) (k0_pay13 sc) b)
    (fun b => k0_pay69 (F := F) (k0_pay13 sc) b)
    (grp_xs co sc 13 (by decide) (col_eval (k0_pay13 (F := F) sc) 26 (by decide) slices_S256x32_o0_26_S256x1) (col_eval (k0_pay13 (F := F) sc) 27 (by decide) slices_S256x32_o0_27_S256x1))
    (grp_xt co sc 13 (by decide) (col_eval (k0_pay13 (F := F) sc) 26 (by decide) slices_S256x32_o0_26_S256x1) (col_eval (k0_pay13 (F := F) sc) 27 (by decide) slices_S256x32_o0_27_S256x1)) _ _ rfl _ _ rfl) $$ [Hc Hd]
  · isplitl [Hc]; · iexact Hc
    iexact Hd
  iintro ⟨Hc, Hd⟩
  sl_step
  isplitr; · ipureintro; rfl
  isplitl [Hc]; · iexact Hc
  iexact Hd

/-- The side condition of the drain's loops holds of every number of experts with rows. -/
theorem chk_all : ∀ n : Fin 17, k0_chk1 (BitVec.ofNat 32 n.val) := by decide +kernel

theorem chk_busy (o : S17.Idx → BitVec 32) : k0_chk1 (busyWord o 16) := by
  unfold busyWord
  exact chk_all ⟨16 - idle o 16, by omega⟩

/-- A side condition that holds lets the program go on. -/
theorem assume_bind (𝒱 : Variants) (c : Dev nD) {P : Prop} {d : Decidable P} (h : P) {β : Type} {K : PLift P → Prog (TpuEff nD τ sig (Elt F) Λ₀ .tc) β} {Q : β → sProp 𝕄} :
    wp frame (wpE defs₀ 𝒱 (c : Thread nD τ) none) Set.univ (K ⟨h⟩) Q ⊢ wp frame (wpE defs₀ 𝒱 (c : Thread nD τ) none) Set.univ (Prog.lift (TpuEff.assume P d) >>= K) Q :=
  wp_assume 𝒱 (c : Thread nD τ) none Set.univ h

set_option maxHeartbeats 4000000 in
/-- Groups 14 and 15, then the sixteen experts' products. -/
theorem part17 (𝒱 : Variants) (c : Dev nD) (o : S17.Idx → Elt F .i32) (co : S256x2048.Idx → Elt F .fp8e4m3) (sc : S256x32.Idx → Elt F .f32)
    (G f : S16x2048x2048.Idx → Elt F .f32)
    (hG : ∀ e, busy o e = true → ∀ i : Fin 8, ∀ y ∈ W e i.val, G y = prod (xsVal co sc) (xtVal co sc) (offAt o e) (offAt o (e + 1)) i (Fin.cons (⟨0, Nat.one_pos⟩ : Fin 1) (inW y))) :
    iprop(codesMem c co ∗ deqMem c co sc 14 ∗ offsMem c o ∗ owesSome c
        ∗ bigSep (Finset.range 16) (fun e => if busy o e = true then hE c f e else iprop(emp)) ∗ bigSep Finset.univ (slotFree (F := F) c))
      ⊢ wp frame (wpE defs₀ 𝒱 (c : Thread nD τ) none) Set.univ
        (k0_part17 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (k0_pay13 sc) (iota .tc S256x128 32 [1] iota_S256x128_d1_w32) (k0_pay70 (F := F) (k0_pay13 sc)) (k0_pay71 (F := F) (k0_pay13 sc)) 64#32)
        (fun r => iprop(⌜r = ⟨busyWord o 16, chk_busy o⟩⌝ ∗ codesMem c co ∗ opsMem c (xsVal co sc) (xtVal co sc) ∗ offsMem c o ∗ owesSome c
          ∗ doneSep c o G 16 ∗ bigSep Finset.univ (slotIn c G (lastBusy o 16)))) := by
  rw [k0_part17_eq_skeleton]
  unfold k0_part17_skel
  dsimp only
  iintro ⟨Hc, Hd, HO, HW, Hh, Hs⟩
  iapply (group_step 𝒱 c co sc 14 (by decide) (fun b => k0_pay73 (F := F) (iota .tc S256x128 32 [1] iota_S256x128_d1_w32) (k0_pay70 (F := F) (k0_pay13 sc)) (k0_pay71 (F := F) (k0_pay13 sc)) 64#32 b)
    (fun b => k0_pay74 (F := F) (iota .tc S256x128 32 [1] iota_S256x128_d1_w32) (k0_pay70 (F := F) (k0_pay13 sc)) (k0_pay71 (F := F) (k0_pay13 sc)) 64#32 b)
    (grp_xs co sc 14 (by decide) (col_eval (k0_pay13 (F := F) sc) 28 (by decide) slices_S256x32_o0_28_S256x1) (col_eval (k0_pay13 (F := F) sc) 29 (by decide) slices_S256x32_o0_29_S256x1))
    (grp_xt co sc 14 (by decide) (col_eval (k0_pay13 (F := F) sc) 28 (by decide) slices_S256x32_o0_28_S256x1) (col_eval (k0_pay13 (F := F) sc) 29 (by decide) slices_S256x32_o0_29_S256x1)) _ _ rfl _ _ rfl) $$ [Hc Hd]
  · isplitl [Hc]; · iexact Hc
    iexact Hd
  iintro ⟨Hc, Hd⟩
  iapply (group_step 𝒱 c co sc 15 (by decide) (fun b => k0_pay76 (F := F) (k0_pay13 sc) b)
    (fun b => k0_pay77 (F := F) (k0_pay13 sc) b)
    (grp_xs co sc 15 (by decide) (col_eval (k0_pay13 (F := F) sc) 30 (by decide) slices_S256x32_o0_30_S256x1) (col_eval (k0_pay13 (F := F) sc) 31 (by decide) slices_S256x32_o0_31_S256x1))
    (grp_xt co sc 15 (by decide) (col_eval (k0_pay13 (F := F) sc) 30 (by decide) slices_S256x32_o0_30_S256x1) (col_eval (k0_pay13 (F := F) sc) 31 (by decide) slices_S256x32_o0_31_S256x1)) _ _ rfl _ _ rfl) $$ [Hc Hd]
  · isplitl [Hc]; · iexact Hc
    iexact Hd
  iintro ⟨Hc, Hd⟩
  ihave Hd := (deq_all c co sc) $$ Hd
  iapply (loop_bind 𝒱 c k0_t2_loop k0_t2_ok 0#32 _ (t2Inv c o G f (xsVal co sc) (xtVal co sc)) (t2_step 𝒱 c o G f (xsVal co sc) (xtVal co sc) hG _ _ _ _ _)) $$ [HO Hd HW Hh Hs]
  · unfold t2Inv doneSep
    rw [Finset.range_zero, bigSep_empty, ← Finset.range_eq_Ico]
    isplitr; · ipureintro; rfl
    isplitl [HO]; · iexact HO
    isplitl [Hd]; · iexact Hd
    isplitl [HW]; · iexact HW
    isplitl [Hh]; · iexact Hh
    isplitr; · iempintro
    iexact Hs
  iintro %acc
  rw [t2_trips]
  unfold t2Inv
  iintro ⟨%hacc, HO, Hd, HW, -, HD, Hs⟩
  subst hacc
  iapply (assume_bind 𝒱 c (chk_busy o))
  sl_step
  isplitr; · ipureintro; rfl
  isplitl [Hc]; · iexact Hc
  isplitl [Hd]; · iexact Hd
  isplitl [HO]; · iexact HO
  isplitl [HW]; · iexact HW
  isplitl [HD]; · iexact HD
  iexact Hs

end Cert.Proof.KernelIdeal

end
-- ==== Proof.KernelIdeal.Tail.lean ====
/-
  The end of the kernel's body: the last products' eight slots waited for, and the zero fill's transfers drained.
-/
module

public import proofs.«01_k».proof.Proof.KernelIdeal.Groups

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The last products -/

/-- The waits on the first four slots. -/
theorem part6 (𝒱 : Variants) (c : Dev nD) (G : S16x2048x2048.Idx → Elt F .f32) (l : ℕ) :
    iprop(slotFly c G l 0 ∗ slotFly c G l 1 ∗ slotFly c G l 2 ∗ slotFly c G l 3 ∗ owesSome c)
      ⊢ wp frame (wpE defs₀ 𝒱 (c : Thread nD τ) none) Set.univ (k0_part6 (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
        (fun r => iprop(⌜r = ⟨⟩⌝ ∗ (slotFree c 0 ∗ slotFree c 1 ∗ slotFree c 2 ∗ slotFree c 3) ∗ (hW c G l 0 ∗ hW c G l 1 ∗ hW c G l 2 ∗ hW c G l 3) ∗ owesSome c)) := by
  rw [k0_part6_eq_skeleton]
  unfold k0_part6_skel
  dsimp only
  iintro ⟨S0, S1, S2, S3, HW⟩
  iapply (slot_wait_fly 𝒱 c G l 0 _ _ _) $$ [S0 HW]
  · isplitl [S0]; · iexact S0
    iexact HW
  iintro ⟨S0, H0, HW⟩
  iapply (slot_wait_fly 𝒱 c G l 1 _ _ _) $$ [S1 HW]
  · isplitl [S1]; · iexact S1
    iexact HW
  iintro ⟨S1, H1, HW⟩
  iapply (slot_wait_fly 𝒱 c G l 2 _ _ _) $$ [S2 HW]
  · isplitl [S2]; · iexact S2
    iexact HW
  iintro ⟨S2, H2, HW⟩
  iapply (slot_wait_fly 𝒱 c G l 3 _ _ _) $$ [S3 HW]
  · isplitl [S3]; · iexact S3
    iexact HW
  iintro ⟨S3, H3, HW⟩
  sl_step
  isplitr; · ipureintro; rfl
  isplitl [S0 S1 S2 S3]
  · isplitl [S0]; · iexact S0
    isplitl [S1]; · iexact S1
    isplitl [S2]; · iexact S2
    iexact S3
  isplitl [H0 H1 H2 H3]
  · isplitl [H0]; · iexact H0
    isplitl [H1]; · iexact H1
    isplitl [H2]; · iexact H2
    iexact H3
  iexact HW

/-! ## The zero fill's drain -/

/-- The drain waits once for each transfer of the zero fill. -/
theorem t3_trips_all : ∀ n : Fin 17, (k0_t3_loop (BitVec.ofNat 32 (16 - n.val))).trips = 8 * n.val := by decide +kernel
theorem t4_trips_all : ∀ n : Fin 17, (k0_t4_loop (BitVec.ofNat 32 (16 - n.val))).trips = 0 := by decide +kernel

theorem t3_trips (o : S17.Idx → BitVec 32) : (k0_t3_loop (busyWord o 16)).trips = 8 * idle o 16 :=
  t3_trips_all ⟨idle o 16, by have := idle_le o 16; omega⟩
theorem t4_trips (o : S17.Idx → BitVec 32) : (k0_t4_loop (busyWord o 16)).trips = 0 :=
  t4_trips_all ⟨idle o 16, by have := idle_le o 16; omega⟩

/-- Before trip `k` of the drain: every transfer issued, `k` windows' credit consumed. -/
def t3Inv (c : Dev nD) (o : S17.Idx → BitVec 32) (z : S256x2048.Idx → Elt F .f32) (G : S16x2048x2048.Idx → Elt F .f32) (k : ℕ) (_ : Unit) : sProp 𝕄 :=
  iprop(zBatch c o z G (8 * idle o 16) (NN * k) ∗ owesSome c)

/-- One wait of the drain. -/
theorem zero_wait (𝒱 : Variants) (c : Dev nD) (o : S17.Idx → BitVec 32) (z : S256x2048.Idx → Elt F .f32) (G : S16x2048x2048.Idx → Elt F .f32)
    {k : ℕ} (hk : k < 8 * idle o 16) {α : Type} {Q : α → sProp 𝕄} (off : Fin 3 → ℕ) (inb : ∀ a, off a + S1x256x2048.size a ≤ S16x2048x2048.size a)
    {hsrc : (Memref.whole cc0_scratch6 : Memref sig .tc .vmem S256x2048 .f32).view.WordExact} {hdst : (hwin off inb).view.WordExact}
    {K : PUnit → Prog (TpuEff nD τ sig (Elt F) Λ₀ .tc) α} :
    t3Inv c o z G k ()
      ⊢ iprop((t3Inv c o z G (k + 1) () -∗ wp frame (wpE defs₀ 𝒱 (c : Thread nD τ) none) Set.univ (K ⟨⟩) Q)
          -∗ wp frame (wpE defs₀ 𝒱 (c : Thread nD τ) none) Set.univ (Prog.lift (.waitDma2 4 (Memref.whole cc0_scratch6) (hwin off inb) hsrc hdst) >>= K) Q) := by
  unfold t3Inv owesSome
  iintro ⟨HB, ⟨%w, HW⟩⟩ Hk
  iapply (Transfers.wp_waitBatchMul (EC (F := F)) 𝒱 (c : Thread nD τ) none (srcw := Memref.whole cc0_scratch6) (dstw := hwin off inb) (N := NN) () 1
    (by show RefSig.tileCredit S256x2048 .f32 = 1 * NN; decide +kernel) (j := 8 * idle o 16) (u := NN * k) (by unfold NN; omega)) $$ [HB HW]
  · isplitl [HB]; · iexact HB
    iexact HW
  rw [show NN * k + 1 * NN = NN * (k + 1) by unfold NN; omega]
  iintro ⟨HB, HW⟩
  iapply Hk
  isplitl [HB]; · iexact HB
  iexists _
  iexact HW

theorem t3_step (𝒱 : Variants) (c : Dev nD) (o : S17.Idx → BitVec 32) (z : S256x2048.Idx → Elt F .f32) (G : S16x2048x2048.Idx → Elt F .f32)
    (h : k0_chk1 (busyWord o 16)) (k : Fin (k0_t3_loop (busyWord o 16)).trips) (acc : Unit) :
    t3Inv c o z G k acc ⊢ wp frame (wpE defs₀ 𝒱 (c : Thread nD τ) none) Set.univ (k0_t3_body (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (busyWord o 16) h k acc) (t3Inv c o z G (k.val + 1)) := by
  have hk : k.val < 8 * idle o 16 := t3_trips o ▸ k.isLt
  unfold k0_t3_body
  dsimp only
  iintro HB
  iapply (zero_wait 𝒱 c o z G hk _ _) $$ HB
  iintro HB
  sl_step
  iexact HB

theorem sep_turn (P Q : sProp 𝕄) : iprop(P ∗ Q) ⊢ iprop(Q ∗ P) := by
  iintro ⟨H1, H2⟩
  isplitl [H2]; · iexact H2
  iexact H1

theorem sep_swap (P Q : sProp 𝕄) : iprop(P ∗ Q) = iprop(Q ∗ P) :=
  equiv_iff.mp ⟨sep_turn (F := F) P Q, sep_turn (F := F) Q P⟩

/-- A range in two. -/
theorem bigSep_Ico_cut {a b n : ℕ} (hab : a ≤ b) (hbn : b ≤ n) (A : ℕ → sProp 𝕄) :
    bigSep (Finset.Ico a n) A = iprop(bigSep (Finset.Ico a b) A ∗ bigSep (Finset.Ico b n) A) := by
  rw [← Finset.Ico_union_Ico_eq_Ico hab hbn, bigSep_union (Finset.Ico_disjoint_Ico_consecutive a b n)]
  rfl

/-- The windows the zero fill delivers are those of the experts with no rows. -/
theorem idle_windows (c : Dev nD) (o : S17.Idx → BitVec 32) (G : S16x2048x2048.Idx → Elt F .f32) (k : ℕ) :
    (bigSep (Finset.range (8 * idle o k)) (fun j => hW c G (idleAt o (j / 8)) (j % 8)) : sProp 𝕄)
      = bigSep (Finset.range k) (fun e => if busy o e = true then iprop(emp) else hE c G e) := by
  induction k with
  | zero => rfl
  | succ k ih =>
    rw [Finset.range_add_one (n := k), sep_insert Finset.notMem_range_self, ← ih]
    by_cases hb : busy o k = true
    · rw [if_pos hb, idle_of_busy o hb]
      exact (equiv_iff.mp BI.emp_sep).symm
    have hb' : busy o k = false := by simpa using hb
    rw [if_neg hb, idle_of_idle o hb']
    show bigSep (Finset.range (8 * (idle o k + 1))) _ = iprop(bigSep (Finset.range 8) (hW c G k) ∗ _)
    rw [bigSep_range8, Finset.range_eq_Ico, bigSep_Ico_cut (a := 0) (b := 8 * idle o k) (n := 8 * (idle o k + 1)) (by omega) (by omega),
      bigSep_Ico8 (a := 8 * idle o k) (by omega), show 8 * (idle o k + 1) = 8 * idle o k + 8 by omega, Finset.Ico_self, bigSep_empty]
    have he : ∀ P : sProp 𝕄, iprop(P ∗ (BI.emp : sProp 𝕄)) = P := fun P => equiv_iff.mp BI.sep_emp
    have h1 : ∀ i, i < 8 → (8 * idle o k + i) / 8 = idle o k := fun i hi => by omega
    have h2 : ∀ i, i < 8 → (8 * idle o k + i) % 8 = i := fun i hi => by omega
    have h3 : 8 * idle o k / 8 = idle o k := by omega
    have h4 : 8 * idle o k % 8 = 0 := by omega
    rw [h1 1 (by decide), h1 2 (by decide), h1 3 (by decide), h1 4 (by decide), h1 5 (by decide), h1 6 (by decide), h1 7 (by decide),
      h2 1 (by decide), h2 2 (by decide), h2 3 (by decide), h2 4 (by decide), h2 5 (by decide), h2 6 (by decide), h2 7 (by decide), h3, h4, idleAt_idle o hb', he, ← Finset.range_eq_Ico]
    exact sep_swap (F := F) _ _

/-- The drained batch: the windows of the experts with no rows, and the zero block's tokens. -/
theorem drained (c : Dev nD) (o : S17.Idx → BitVec 32) (z : S256x2048.Idx → Elt F .f32) (G : S16x2048x2048.Idx → Elt F .f32) :
    (bigSep Finset.univ (fun t : Fin (8 * idle o 16) => zDel c o z G t.val) : sProp 𝕄)
      = iprop(bigSep (Finset.range 16) (fun e => if busy o e = true then iprop(emp) else hE c G e) ∗ bigSep (Finset.range (8 * idle o 16)) (zTok c z)) := by
  rw [Ring.bigSep_fin_eq_range (8 * idle o 16) _ (zDel c o z G) (fun t h => rfl), ← idle_windows c o G 16]
  exact bigSep_sep' _ _ _

/-- The zero block whole again. -/
theorem zero_join (c : Dev nD) (o : S17.Idx → BitVec 32) (z : S256x2048.Idx → Elt F .f32) :
    iprop(bigSep (Finset.range (8 * idle o 16)) (zTok c z) ∗ bigSep (Finset.Ico (8 * idle o 16) 128) (zTok c z)
        ∗ ((c : Thread nD τ).loc cc0_scratch6 ↦{Transfers.shareDrop fullShare 128} z))
      ⊢ ((c : Thread nD τ).loc cc0_scratch6 ↦{fullShare} z : sProp 𝕄) := by
  have hi := idle_le o 16
  have e : (bigSep (Finset.range 128) (fun t => ((c : Thread nD τ).loc cc0_scratch6 ↦{Transfers.shareTokN fullShare t} z)) : sProp 𝕄)
      = iprop(bigSep (Finset.range (8 * idle o 16)) (zTok c z) ∗ bigSep (Finset.Ico (8 * idle o 16) 128) (zTok c z)) := by
    rw [Finset.range_eq_Ico, Finset.range_eq_Ico, ← bigSep_Ico_cut (Nat.zero_le _) (by omega)]
    exact bigSep_congr fun t _ => (zTok_eq c z t).symm
  iintro ⟨H1, H2, H3⟩
  iapply (Transfers.pointsTo_toks_range fullShare 128).2
  isplitl [H3]; · iexact H3
  rw [e]
  isplitl [H1]; · iexact H1
  iexact H2

end Cert.Proof.KernelIdeal

end
-- ==== Proof.KernelIdeal.Ends.lean ====
/-
  What the kernel's two ends hold: the array that `H` is to become, and the scratch, windows and slots as the body finds them
  at its start and hands them back.
-/
module

public import proofs.«01_k».proof.Proof.KernelIdeal.Tail

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- What the kernel leaves in `H`: an expert with rows has its products, an expert with none has the zero block. -/
def target (o : S17.Idx → BitVec 32) (XS : S256x2048.Idx → Elt F .bf16) (XT : S2048x256.Idx → Elt F .bf16) : S16x2048x2048.Idx → Elt F .f32 := fun y =>
  if busy o (y 0).val = true then
    prod XS XT (offAt o (y 0).val) (offAt o ((y 0).val + 1)) ⟨(y 1).val / 256, by have : (y 1).val < 2048 := (y 1).isLt; omega⟩ (Fin.cons (⟨0, Nat.one_pos⟩ : Fin 1) (inW y))
  else k0_pay12 (F := F) (inW y)

theorem target_busy (o : S17.Idx → BitVec 32) (XS : S256x2048.Idx → Elt F .bf16) (XT : S2048x256.Idx → Elt F .bf16) :
    ∀ e, busy o e = true → ∀ i : Fin 8, ∀ y ∈ W e i.val, target o XS XT y = prod XS XT (offAt o e) (offAt o (e + 1)) i (Fin.cons (⟨0, Nat.one_pos⟩ : Fin 1) (inW y)) := by
  intro e he i y hy
  obtain ⟨h0, h1⟩ := mem_W.mp hy
  subst h0
  unfold target
  rw [if_pos he]
  have : (⟨(y 1).val / 256, by have : (y 1).val < 2048 := (y 1).isLt; omega⟩ : Fin 8) = i := Fin.ext h1
  rw [this]

theorem target_idle (o : S17.Idx → BitVec 32) (XS : S256x2048.Idx → Elt F .bf16) (XT : S2048x256.Idx → Elt F .bf16) :
    ∀ e k, busy o e = false → ∀ y ∈ W e k, target o XS XT y = k0_pay12 (F := F) (inW y) := by
  intro e k he y hy
  obtain ⟨h0, -⟩ := mem_W.mp hy
  subst h0
  unfold target
  rw [if_neg (by rw [he]; decide)]

/-- What the kernel leaves in `H`, of its three arguments. -/
abbrev hessian (o : S17.Idx → BitVec 32) (co : S256x2048.Idx → Elt F .fp8e4m3) (sc : S256x32.Idx → Elt F .f32) : S16x2048x2048.Idx → Elt F .f32 :=
  target o (xsVal co sc) (xtVal co sc)

/-- Nothing stored yet, nothing asked. -/
theorem cnt_none (c : Dev nD) (o : S17.Idx → Elt F .i32) : (∃ f, (c : Thread nD τ).loc cc0_scratch1 ↦{fullShare} f) ⊢ (cntMem c o 0 : sProp 𝕄) := by
  unfold cntMem
  iintro ⟨%f, H⟩
  iexists f
  isplitr
  · ipureintro; intro y hy; exact absurd hy (Nat.not_lt_zero _)
  iexact H

theorem deq_none (c : Dev nD) (co : S256x2048.Idx → Elt F .fp8e4m3) (sc : S256x32.Idx → Elt F .f32) :
    iprop((∃ f, (c : Thread nD τ).loc cc0_scratch4 ↦{fullShare} f) ∗ (∃ f, (c : Thread nD τ).loc cc0_scratch5 ↦{fullShare} f)) ⊢ (deqMem c co sc 0 : sProp 𝕄) := by
  unfold deqMem
  iintro ⟨⟨%f, H⟩, ⟨%g, Hg⟩⟩
  isplitl [H]
  · iexists f
    isplitr
    · ipureintro; intro y hy; exact absurd hy (Nat.not_lt_zero _)
    iexact H
  iexists g
  isplitr
  · ipureintro; intro y hy; exact absurd hy (Nat.not_lt_zero _)
  iexact Hg

/-- The ring and its eight semaphores at rest are eight free slots. -/
theorem slots_open (c : Dev nD) :
    iprop((∃ f, (c : Thread nD τ).loc cc0_scratch7 ↦{fullShare} f) ∗ sem0 c 5 ∗ sem0 c 6 ∗ sem0 c 7 ∗ sem0 c 8 ∗ sem0 c 9 ∗ sem0 c 10 ∗ sem0 c 11 ∗ sem0 c 12) ⊢ (bigSep Finset.univ (slotFree (F := F) c) : sProp 𝕄) := by
  iintro ⟨⟨%f, H⟩, S0, S1, S2, S3, S4, S5, S6, S7⟩
  ihave H := (Entails.of_eq (ring_slots c f)) $$ H
  ihave H := (Entails.of_eq (bigSep_fin8 fun i : Fin 8 => slotPt c i.val f)) $$ H
  icases H with ⟨R0, R1, R2, R3, R4, R5, R6, R7⟩
  iapply (Entails.of_eq (bigSep_fin8 (slotFree (F := F) c)).symm)
  unfold slotFree
  isplitl [R0 S0]
  · isplitl [R0]; · iexists f; iexact R0
    iexact S0
  isplitl [R1 S1]
  · isplitl [R1]; · iexists f; iexact R1
    iexact S1
  isplitl [R2 S2]
  · isplitl [R2]; · iexists f; iexact R2
    iexact S2
  isplitl [R3 S3]
  · isplitl [R3]; · iexists f; iexact R3
    iexact S3
  isplitl [R4 S4]
  · isplitl [R4]; · iexists f; iexact R4
    iexact S4
  isplitl [R5 S5]
  · isplitl [R5]; · iexists f; iexact R5
    iexact S5
  isplitl [R6 S6]
  · isplitl [R6]; · iexists f; iexact R6
    iexact S6
  isplitl [R7]; · iexists f; iexact R7
  iexact S7

theorem slots_close (c : Dev nD) :
    (bigSep Finset.univ (slotFree (F := F) c) : sProp 𝕄) ⊢ iprop((∃ f, (c : Thread nD τ).loc cc0_scratch7 ↦{fullShare} f) ∗ sem0 c 5 ∗ sem0 c 6 ∗ sem0 c 7 ∗ sem0 c 8 ∗ sem0 c 9 ∗ sem0 c 10 ∗ sem0 c 11 ∗ sem0 c 12) := by
  iintro H
  ihave H := (Entails.of_eq (bigSep_fin8 (slotFree (F := F) c))) $$ H
  unfold slotFree
  icases H with ⟨⟨⟨%f, R0⟩, S0⟩, ⟨R1, S1⟩, ⟨R2, S2⟩, ⟨R3, S3⟩, ⟨R4, S4⟩, ⟨R5, S5⟩, ⟨R6, S6⟩, ⟨R7, S7⟩⟩
  isplitl [R0 R1 R2 R3 R4 R5 R6 R7]
  · iapply (ring_join c f)
    iapply (Entails.of_eq (bigSep_fin8 (fun i : Fin 8 => iprop(∃ f, (slotPt c i.val f : sProp 𝕄)))).symm)
    isplitl [R0]; · iexists f; iexact R0
    isplitl [R1]; · iexact R1
    isplitl [R2]; · iexact R2
    isplitl [R3]; · iexact R3
    isplitl [R4]; · iexact R4
    isplitl [R5]; · iexact R5
    isplitl [R6]; · iexact R6
    iexact R7
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

set_option maxHeartbeats 4000000 in
/-- The body after the experts' products are sent. -/
theorem body_tail (𝒱 : Variants) (c : Dev nD) (o : S17.Idx → Elt F .i32) (z : S256x2048.Idx → Elt F .f32) (G : S16x2048x2048.Idx → Elt F .f32) (h : k0_chk1 (busyWord o 16))
    {α : Type} {Q : α → sProp 𝕄} {K : PUnit → Prog (TpuEff nD τ sig (Elt F) Λ₀ .tc) α} :
    iprop(zBatch c o z G (8 * idle o 16) 0 ∗ countsFly c o ∗ busySep c o G 16 ∗ bigSep (Finset.Ico (8 * idle o 16) 128) (zTok c z)
        ∗ ((c : Thread nD τ).loc cc0_scratch6 ↦{Transfers.shareDrop fullShare 128} z) ∗ owesSome c)
      ⊢ iprop((((c : Thread nD τ).loc main_v0_0 ↦{fullShare} G) ∗ ((c : Thread nD τ).loc main_v0_1 ↦{fullShare} (cntArr o : S16.Idx → Elt F .i32)) ∗ ((c : Thread nD τ).loc cc0_scratch1 ↦{fullShare} (cntArr o : S16.Idx → Elt F .i32)) ∗ ((c : Thread nD τ).loc cc0_scratch6 ↦{fullShare} z) ∗ sem0 c 3 ∗ sem0 c 4 ∗ owesSome c
            -∗ wp frame (wpE defs₀ 𝒱 (c : Thread nD τ) none) Set.univ (K ⟨⟩) Q)
        -∗ wp frame (wpE defs₀ 𝒱 (c : Thread nD τ) none) Set.univ
          (Scf.Loop.for (k0_t3_loop (busyWord o 16)) (k0_t3_ok (busyWord o 16) h) ⟨⟩ (k0_t3_body (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (busyWord o 16) h) >>= fun _ =>
            Scf.Loop.for (k0_t4_loop (busyWord o 16)) (k0_t4_ok (busyWord o 16) h) ⟨⟩ (k0_t4_body (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (busyWord o 16) h) >>= fun _ =>
              Prog.lift (.waitDma2 cc0_scratch9.sem (Memref.whole cc0_scratch1) (Memref.whole main_v0_1) (Memref.isWhole_whole _).wordExact (Memref.isWhole_whole _).wordExact) >>= K) Q) := by
  iintro ⟨HB, F3, HD, Hz, Hzr, HW⟩ Hk
  iapply (loop_bind 𝒱 c _ _ () _ (t3Inv c o z G) (t3_step 𝒱 c o z G h)) $$ [HB HW]
  · unfold t3Inv
    isplitl [HB]; · iexact HB
    iexact HW
  iintro %acc
  rw [t3_trips]
  unfold t3Inv
  iintro ⟨HB, HW⟩
  imod (Transfers.batch_collect' (EC (F := F)) (c : Thread nD τ) (by decide)) $$ HB with ⟨HB, S4⟩
  ihave HB := (Entails.of_eq (drained c o z G)) $$ HB
  icases HB with ⟨Hid, Ht⟩
  iapply (loop_bind 𝒱 c _ _ () _ (fun _ _ => iprop(emp)) (fun k _ => absurd k.isLt (by have := t4_trips o; omega))) $$ []
  · iempintro
  iintro %acc2 -
  iapply (flight_wait 𝒱 c (Memref.whole cc0_scratch1) (Memref.whole main_v0_1) rfl) $$ [F3 HW]
  · isplitl [F3]; · iexact F3
    iexact HW
  iintro ⟨⟨Hct, Hcm⟩, S3, HW⟩
  iapply Hk
  isplitl [HD Hid]
  · iapply (Entails.of_eq (h_split c o G).symm)
    isplitl [HD]; · unfold busySep; iexact HD
    iexact Hid
  isplitl [Hct]; · iexact Hct
  isplitl [Hcm]; · iexact Hcm
  isplitl [Ht Hz Hzr]
  · iapply (zero_join c o z)
    isplitl [Ht]; · iexact Ht
    isplitl [Hz]; · iexact Hz
    iexact Hzr
  isplitl [S3]; · iexact S3
  isplitl [S4]; · iexact S4
  iexact HW

end Cert.Proof.KernelIdeal

end
-- ==== Proof.KernelIdeal.Body.lean ====
/-
  The kernel's whole body: from the arguments, the results at anything and the scratch at anything, to the arguments as they
  were, `H` at the target array and the counts in place.
-/
module

public import proofs.«01_k».proof.Proof.KernelIdeal.Ends

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- What the last eight waits gain. -/
theorem gained_some (c : Dev nD) (G : S16x2048x2048.Idx → Elt F .f32) (l : ℕ) :
    iprop(hW c G l 0 ∗ hW c G l 1 ∗ hW c G l 2 ∗ hW c G l 3 ∗ hW c G l (4 : Fin 8).val ∗ hW c G l (5 : Fin 8).val ∗ hW c G l (6 : Fin 8).val ∗ hW c G l (7 : Fin 8).val)
      = bigSep Finset.univ (gained c G (some l)) :=
  (bigSep_fin8 (gained c G (some l))).symm

theorem slotIn_some (c : Dev nD) (G : S16x2048x2048.Idx → Elt F .f32) (l : ℕ) :
    (bigSep Finset.univ (slotIn c G (some l)) : sProp 𝕄) = bigSep Finset.univ (slotFly c G l) := rfl

theorem slotIn_none (c : Dev nD) (G : S16x2048x2048.Idx → Elt F .f32) :
    (bigSep Finset.univ (slotIn c G none) : sProp 𝕄) = bigSep Finset.univ (slotFree (F := F) c) := rfl

set_option maxHeartbeats 16000000 in
/-- The body's run. -/
theorem body_run (𝒱 : Variants) (c : Dev nD) (o : S17.Idx → Elt F .i32) (co : S256x2048.Idx → Elt F .fp8e4m3) (sc : S256x32.Idx → Elt F .f32) :
    iprop(((c : Thread nD τ).loc main_arg0 ↦{fullShare} co) ∗ ((c : Thread nD τ).loc main_arg1 ↦{fullShare} sc) ∗ ((c : Thread nD τ).loc main_arg2 ↦{fullShare} o) ∗ (∃ f, (c : Thread nD τ).loc main_v0_0 ↦{fullShare} f) ∗ (∃ f, (c : Thread nD τ).loc main_v0_1 ↦{fullShare} f)
        ∗ ((∃ f, (c : Thread nD τ).loc cc0_scratch2 ↦{fullShare} f) ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f) ∗ (∃ f, (c : Thread nD τ).loc cc0_scratch6 ↦{fullShare} f) ∗ (∃ f, (c : Thread nD τ).loc cc0_scratch7 ↦{fullShare} f) ∗ (∃ f, (c : Thread nD τ).loc cc0_scratch0 ↦{fullShare} f) ∗ (∃ f, (c : Thread nD τ).loc cc0_scratch1 ↦{fullShare} f))
        ∗ (sem0 c 0 ∗ sem0 c 1 ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12) ∗ owesSome c)
      ⊢ wp frame (wpE defs₀ 𝒱 (c : Thread nD τ) none) Set.univ (cc0_moe_hessian (F := F) (Memref.whole main_arg2) (Memref.isWhole_whole _) (Memref.whole main_arg0) (Memref.isWhole_whole _) (Memref.whole main_arg1) (Memref.isWhole_whole _) (Memref.whole main_v0_0) (Memref.isWhole_whole _) (Memref.whole main_v0_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11)
        (fun _ => iprop(((c : Thread nD τ).loc main_arg0 ↦{fullShare} co) ∗ ((c : Thread nD τ).loc main_arg1 ↦{fullShare} sc) ∗ ((c : Thread nD τ).loc main_arg2 ↦{fullShare} o) ∗ ((c : Thread nD τ).loc main_v0_0 ↦{fullShare} (hessian o co sc)) ∗ ((c : Thread nD τ).loc main_v0_1 ↦{fullShare} (cntArr o : S16.Idx → Elt F .i32))
          ∗ ((∃ f, (c : Thread nD τ).loc cc0_scratch2 ↦{fullShare} f) ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f) ∗ (∃ f, (c : Thread nD τ).loc cc0_scratch6 ↦{fullShare} f) ∗ (∃ f, (c : Thread nD τ).loc cc0_scratch7 ↦{fullShare} f) ∗ (∃ f, (c : Thread nD τ).loc cc0_scratch0 ↦{fullShare} f) ∗ (∃ f, (c : Thread nD τ).loc cc0_scratch1 ↦{fullShare} f))
          ∗ (sem0 c 0 ∗ sem0 c 1 ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12) ∗ owesSome c)) := by
  rw [cc0_moe_hessian_eq_skeleton]
  unfold cc0_moe_hessian_skel
  iintro ⟨Hco, Hsc, Ho, ⟨%h, Hh⟩, Hct, ⟨X2, X3, X4, X5, X6, X7, X0, X1⟩, ⟨S0, S1, S2, S3, S4, S5, S6, S7, S8, S9, S10, S11, S12⟩, HW⟩
  ihave HC := (cnt_none c o) $$ X1
  ihave Hd := (deq_none c co sc) $$ [X4 X5]
  · isplitl [X4]; · iexact X4
    iexact X5
  ihave Hsl := (slots_open c) $$ [X7 S5 S6 S7 S8 S9 S10 S11 S12]
  · isplitl [X7]; · iexact X7
    isplitl [S5]; · iexact S5
    isplitl [S6]; · iexact S6
    isplitl [S7]; · iexact S7
    isplitl [S8]; · iexact S8
    isplitl [S9]; · iexact S9
    isplitl [S10]; · iexact S10
    isplitl [S11]; · iexact S11
    iexact S12
  ihave Hh := (Entails.of_eq (h_split c o h)) $$ Hh
  icases Hh with ⟨Hbu, Hid⟩
  dsimp only
  iapply (then_part (part7 𝒱 c o co sc)) $$ [Ho Hco Hsc X0 HC X2 X3 X6 S0 S1 S2 HW]
  · isplitl [Ho]; · iexact Ho
    isplitl [Hco]; · iexact Hco
    isplitl [Hsc]; · iexact Hsc
    isplitl [X0]; · iexact X0
    isplitl [HC]; · iexact HC
    isplitl [X2]; · iexact X2
    isplitl [X3]; · iexact X3
    isplitl [X6]; · iexact X6
    isplitl [S0]; · iexact S0
    isplitl [S1]; · iexact S1
    isplitl [S2]; · iexact S2
    iexact HW
  iintro ⟨Ho, HO, HC, F1, F2, Hz, S0, HW⟩
  dsimp only
  iapply (then_part (part8 𝒱 c o)) $$ [HO HC]
  · isplitl [HO]; · iexact HO
    iexact HC
  iintro ⟨HO, HC⟩
  dsimp only
  iapply (then_part (part9 𝒱 c o co sc (hessian o co sc) h (target_idle o _ _))) $$ [HO HC F1 F2 Hz Hid Hct S3 S4 HW]
  · isplitl [HO]; · iexact HO
    isplitl [HC]; · iexact HC
    isplitl [F1]; · iexact F1
    isplitl [F2]; · iexact F2
    isplitl [Hz]; · iexact Hz
    isplitl [Hid]; · iexact Hid
    isplitl [Hct]; · iexact Hct
    isplitl [S3]; · iexact S3
    isplitl [S4]; · iexact S4
    iexact HW
  iintro ⟨HO, F3, ⟨Hc, Hco⟩, ⟨Hs, Hsc⟩, S1, S2, HB, Hz, Hzr, HW⟩
  dsimp only
  iapply (then_part (part10 𝒱 c co sc)) $$ [Hc Hd]
  · isplitl [Hc]; · iexact Hc
    iexact Hd
  iintro ⟨Hc, Hd⟩
  dsimp only
  iapply (then_part (part11 𝒱 c co sc)) $$ [Hc Hd]
  · isplitl [Hc]; · iexact Hc
    iexact Hd
  iintro ⟨Hc, Hd⟩
  dsimp only
  iapply (then_part (part12 𝒱 c co sc)) $$ [Hc Hd]
  · isplitl [Hc]; · iexact Hc
    iexact Hd
  iintro ⟨Hc, Hd⟩
  dsimp only
  iapply (then_part (part13 𝒱 c co sc)) $$ [Hc Hd]
  · isplitl [Hc]; · iexact Hc
    iexact Hd
  iintro ⟨Hc, Hd⟩
  dsimp only
  iapply (then_part (part14 𝒱 c co sc)) $$ [Hc Hd]
  · isplitl [Hc]; · iexact Hc
    iexact Hd
  iintro ⟨Hc, Hd⟩
  dsimp only
  iapply (then_part (part15 𝒱 c co sc)) $$ [Hc Hd]
  · isplitl [Hc]; · iexact Hc
    iexact Hd
  iintro ⟨Hc, Hd⟩
  dsimp only
  iapply (then_part (part16 𝒱 c co sc)) $$ [Hc Hd]
  · isplitl [Hc]; · iexact Hc
    iexact Hd
  iintro ⟨Hc, Hd⟩
  dsimp only
  iapply (then_part (part17 𝒱 c o co sc (hessian o co sc) h (target_busy o _ _))) $$ [Hc Hd HO HW Hbu Hsl]
  · isplitl [Hc]; · iexact Hc
    isplitl [Hd]; · iexact Hd
    isplitl [HO]; · iexact HO
    isplitl [HW]; · iexact HW
    isplitl [Hbu]; · iexact Hbu
    iexact Hsl
  iintro ⟨Hc, Hd, HO, HW, HD, Hsl⟩
  dsimp only
  cases hl : lastBusy o 16 with
  | none =>
    rw [if_neg (by rw [busyWord_pos o (le_refl 16), hl]; decide)]
    ihave Hsl := (Entails.of_eq (slotIn_none c (hessian o co sc))) $$ Hsl
    ihave HD := (done_all c o (hessian o co sc) 16) $$ [HD]
    · rw [hl]
      isplitl [HD]; · iexact HD
      rw [bigSep_fin8]
      unfold gained
      dsimp only
      isplitr; · iempintro
      isplitr; · iempintro
      isplitr; · iempintro
      isplitr; · iempintro
      isplitr; · iempintro
      isplitr; · iempintro
      isplitr; · iempintro
      iempintro
    iapply (body_tail 𝒱 c o (k0_pay12 (F := F)) (hessian o co sc) (chk_busy o)) $$ [HB F3 HD Hz Hzr HW]
    · isplitl [HB]; · iexact HB
      isplitl [F3]; · iexact F3
      isplitl [HD]; · iexact HD
      isplitl [Hz]; · iexact Hz
      isplitl [Hzr]; · iexact Hzr
      iexact HW
    iintro ⟨Hh, Hct, Hcm, Hz, S3, S4, HW⟩
    sl_step
    ihave Hsl := (slots_close c) $$ Hsl
    icases Hsl with ⟨X7, T5, T6, T7, T8, T9, T10, T11, T12⟩
    unfold codesMem opsMem
    icases Hd with ⟨X4, X5⟩
    isplitl [Hco]; · iexact Hco
    isplitl [Hsc]; · iexact Hsc
    isplitl [Ho]; · iexact Ho
    isplitl [Hh]; · iexact Hh
    isplitl [Hct]; · iexact Hct
    isplitl [Hc Hs X4 X5 Hz X7 HO Hcm]
    · isplitl [Hc]; · iexists _; iexact Hc
      isplitl [Hs]; · iexists _; iexact Hs
      isplitl [X4]; · iexists _; iexact X4
      isplitl [X5]; · iexists _; iexact X5
      isplitl [Hz]; · iexists _; iexact Hz
      isplitl [X7]; · iexact X7
      isplitl [HO]; · iexists _; iexact HO
      iexists _; iexact Hcm
    isplitl [S0 S1 S2 S3 S4 T5 T6 T7 T8 T9 T10 T11 T12]
    · isplitl [S0]; · iexact S0
      isplitl [S1]; · iexact S1
      isplitl [S2]; · iexact S2
      isplitl [S3]; · iexact S3
      isplitl [S4]; · iexact S4
      isplitl [T5]; · iexact T5
      isplitl [T6]; · iexact T6
      isplitl [T7]; · iexact T7
      isplitl [T8]; · iexact T8
      isplitl [T9]; · iexact T9
      isplitl [T10]; · iexact T10
      isplitl [T11]; · iexact T11
      iexact T12
    iexact HW

  | some l =>
    rw [if_pos (by rw [busyWord_pos o (le_refl 16), hl]; rfl)]
    ihave Hsl := (Entails.of_eq (slotIn_some c (hessian o co sc) l)) $$ Hsl
    ihave Hsl := (Entails.of_eq (bigSep_fin8 (slotFly c (hessian o co sc) l))) $$ Hsl
    icases Hsl with ⟨U0, U1, U2, U3, U4, U5, U6, U7⟩
    iapply (then_part (part6 𝒱 c (hessian o co sc) l)) $$ [U0 U1 U2 U3 HW]
    · isplitl [U0]; · iexact U0
      isplitl [U1]; · iexact U1
      isplitl [U2]; · iexact U2
      isplitl [U3]; · iexact U3
      iexact HW
    iintro ⟨⟨U0, U1, U2, U3⟩, ⟨H0, H1, H2, H3⟩, HW⟩
    iapply (slot_wait_fly 𝒱 c (hessian o co sc) l 4 _ _ _) $$ [U4 HW]
    · isplitl [U4]; · iexact U4
      iexact HW
    iintro ⟨U4, H4, HW⟩
    iapply (slot_wait_fly 𝒱 c (hessian o co sc) l 5 _ _ _) $$ [U5 HW]
    · isplitl [U5]; · iexact U5
      iexact HW
    iintro ⟨U5, H5, HW⟩
    iapply (slot_wait_fly 𝒱 c (hessian o co sc) l 6 _ _ _) $$ [U6 HW]
    · isplitl [U6]; · iexact U6
      iexact HW
    iintro ⟨U6, H6, HW⟩
    iapply (slot_wait_fly 𝒱 c (hessian o co sc) l 7 _ _ _) $$ [U7 HW]
    · isplitl [U7]; · iexact U7
      iexact HW
    iintro ⟨U7, H7, HW⟩

    ihave HD := (done_all c o (hessian o co sc) 16) $$ [HD H0 H1 H2 H3 H4 H5 H6 H7]
    · rw [hl]
      isplitl [HD]; · iexact HD
      iapply (Entails.of_eq (gained_some c (hessian o co sc) l))
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

    ihave Hsl := (Entails.of_eq (bigSep_fin8 (slotFree (F := F) c)).symm) $$ [U0 U1 U2 U3 U4 U5 U6 U7]
    · isplitl [U0]; · iexact U0
      isplitl [U1]; · iexact U1
      isplitl [U2]; · iexact U2
      isplitl [U3]; · iexact U3
      isplitl [U4]; · iexact U4
      isplitl [U5]; · iexact U5
      isplitl [U6]; · iexact U6
      iexact U7
    iapply (body_tail 𝒱 c o (k0_pay12 (F := F)) (hessian o co sc) (chk_busy o)) $$ [HB F3 HD Hz Hzr HW]
    · isplitl [HB]; · iexact HB
      isplitl [F3]; · iexact F3
      isplitl [HD]; · iexact HD
      isplitl [Hz]; · iexact Hz
      isplitl [Hzr]; · iexact Hzr
      iexact HW
    iintro ⟨Hh, Hct, Hcm, Hz, S3, S4, HW⟩
    sl_step
    ihave Hsl := (slots_close c) $$ Hsl
    icases Hsl with ⟨X7, T5, T6, T7, T8, T9, T10, T11, T12⟩
    unfold codesMem opsMem
    icases Hd with ⟨X4, X5⟩
    isplitl [Hco]; · iexact Hco
    isplitl [Hsc]; · iexact Hsc
    isplitl [Ho]; · iexact Ho
    isplitl [Hh]; · iexact Hh
    isplitl [Hct]; · iexact Hct
    isplitl [Hc Hs X4 X5 Hz X7 HO Hcm]
    · isplitl [Hc]; · iexists _; iexact Hc
      isplitl [Hs]; · iexists _; iexact Hs
      isplitl [X4]; · iexists _; iexact X4
      isplitl [X5]; · iexists _; iexact X5
      isplitl [Hz]; · iexists _; iexact Hz
      isplitl [X7]; · iexact X7
      isplitl [HO]; · iexists _; iexact HO
      iexists _; iexact Hcm
    isplitl [S0 S1 S2 S3 S4 T5 T6 T7 T8 T9 T10 T11 T12]
    · isplitl [S0]; · iexact S0
      isplitl [S1]; · iexact S1
      isplitl [S2]; · iexact S2
      isplitl [S3]; · iexact S3
      isplitl [S4]; · iexact S4
      isplitl [T5]; · iexact T5
      isplitl [T6]; · iexact T6
      isplitl [T7]; · iexact T7
      isplitl [T8]; · iexact T8
      isplitl [T9]; · iexact T9
      isplitl [T10]; · iexact T10
      isplitl [T11]; · iexact T11
      iexact T12
    iexact HW

end Cert.Proof.KernelIdeal

end
-- ==== Proof.KernelIdeal.Run.lean ====
/-
  The kernel's run: its one call takes the whole arrays and the scratch, and every final state has `H` at the target array,
  the counts in place, the arguments as launched and every semaphore at zero.
-/
module

public import proofs.«01_k».proof.Proof.KernelIdeal.Body

public import proofs.«01_k».proof.Proof.Gen.KernelIdeal.Frame
public import Idealize.ShloMosaic.Lib.Pipeline.Routed
public import Idealize.ShloMosaic.Lib.Pipeline.Frame
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

open Idealize.ShloMosaic.Pipeline (Dat Cfg Window BodyObligation cellOf)

variable (m : (ℓ : Loc nD τ sig) → Buf (Elt F) ℓ) (ρ : Dev nD → PrngReg)

/-- The kernel's own semaphores. -/
def osem0 : Fin 13 → SemLoc sig := fun i => SemLoc.dma (sig := sig) i

theorem ownSemFacts0 : Pipeline.OwnSemFacts cfg0.spec osem0 := by decide

/-- The arrays the kernel is handed whole. -/
def R0 : Finset (Ref sig .tc) := {main_arg0, main_arg1, main_arg2, main_v0_0, main_v0_1}

theorem R0_sub : R0 ⊆ Pipeline.restRefs sig cfg0.spec := by decide

/-- What the arrays hold after the run. -/
def Y (c : Dev nD) : (b : Ref sig .tc) → Buf (Elt F) ((c.tc : Thread nD τ).loc b) :=
  Function.update (Function.update (V m c) main_v0_0 (hessian (V m c main_arg2) (V m c main_arg0) (V m c main_arg1)))
    main_v0_1 (cntArr (V m c main_arg2) : S16.Idx → Elt F .i32)

theorem Y_arg0 (c : Dev nD) : Y m c main_arg0 = V m c main_arg0 :=
  (Function.update_of_ne (by decide) _ _).trans (Function.update_of_ne (by decide) _ _)
theorem Y_arg1 (c : Dev nD) : Y m c main_arg1 = V m c main_arg1 :=
  (Function.update_of_ne (by decide) _ _).trans (Function.update_of_ne (by decide) _ _)
theorem Y_arg2 (c : Dev nD) : Y m c main_arg2 = V m c main_arg2 :=
  (Function.update_of_ne (by decide) _ _).trans (Function.update_of_ne (by decide) _ _)
theorem Y_h (c : Dev nD) : Y m c main_v0_0 = hessian (V m c main_arg2) (V m c main_arg0) (V m c main_arg1) :=
  (Function.update_of_ne (by decide) _ _).trans (Function.update_self _ _ _)
theorem Y_counts (c : Dev nD) : Y m c main_v0_1 = (cntArr (V m c main_arg2) : S16.Idx → Elt F .i32) :=
  Function.update_self _ _ _

/-- The arrays one by one. -/
theorem routed_eq (c : Dev nD) (U : (b : Ref sig .tc) → Buf (Elt F) ((c.tc : Thread nD τ).loc b)) :
    (Pipeline.routed R0 c U : sProp 𝕄) = iprop(((c : Thread nD τ).loc main_arg0 ↦{fullShare} U main_arg0) ∗ ((c : Thread nD τ).loc main_arg1 ↦{fullShare} U main_arg1) ∗ ((c : Thread nD τ).loc main_arg2 ↦{fullShare} U main_arg2) ∗ ((c : Thread nD τ).loc main_v0_0 ↦{fullShare} U main_v0_0) ∗ ((c : Thread nD τ).loc main_v0_1 ↦{fullShare} U main_v0_1)) := by
  unfold Pipeline.routed
  rw [BI.bigSep_eq_bigSepL_of_eq [main_arg0, main_arg1, main_arg2, main_v0_0, main_v0_1] (by decide) (by decide)]; rfl

theorem ownSems_eq (c : Dev nD) :
    (Pipeline.ownSems0 osem0 c : sProp 𝕄) = iprop(sem0 c 0 ∗ sem0 c 1 ∗ sem0 c 2 ∗ sem0 c 3 ∗ sem0 c 4 ∗ sem0 c 5 ∗ sem0 c 6 ∗ sem0 c 7 ∗ sem0 c 8 ∗ sem0 c 9 ∗ sem0 c 10 ∗ sem0 c 11 ∗ sem0 c 12) :=
  Pipeline.ownSems0_eq_of_list c osem0 [0, 1, 2, 3, 4, 5, 6, 7, 8, 9, 10, 11, 12] (by decide) (by decide)

/-- What the call holds before its one point, and after it. -/
def dats (_ : Fin 1) (c : Dev nD) : Dat τ (Elt F) Unit ℕ (Pipeline.UC sig nD τ) ℕ cfg0 c where
  A w := V m c (Pipeline.arrRef cfg0.spec w)
  after w _ := w.elim0
  Φ t := Pipeline.Ends cfg0.spec osem0 R0 c (if t.val = 0 then V m c else Y m c)
  q _ := fullShare
  owed _ := 0

theorem A_eq (c : Dev nD) (w : Fin cfg0.W) : (dats m 0 c).A w = V m c (Pipeline.arrRef cfg0.spec w) := rfl

theorem Phi_start (c : Dev nD) (t : Fin cfg0.N) : (dats m 0 c).Φ t.castSucc = Pipeline.Ends cfg0.spec osem0 R0 c (V m c) := by
  have h := fin_N0 t
  subst h
  rfl

theorem Phi_end (c : Dev nD) (t : Fin cfg0.N) : (dats m 0 c).Φ t.succ = Pipeline.Ends cfg0.spec osem0 R0 c (Y m c) := by
  have h := fin_N0 t
  subst h
  rfl

theorem bigSep_W0 (Φ : Fin 0 → sProp 𝕄) : bigSep Finset.univ Φ = (BI.emp : sProp 𝕄) := by
  rw [Finset.univ_eq_empty]; exact bigSep_empty

theorem sound_body (c : Dev nD) (t : Fin cfg0.N) :
    iprop((dats m 0 c).Φ t.castSucc ∗ (dats m 0 c).owesAt () t.castSucc ∗ emp)
      ⊢ wp frame (wpE defs₀ Variants.none (c : Thread nD τ) none) Set.univ (bodyAt0 t) (fun _ => iprop((dats m 0 c).Φ t.succ ∗ (dats m 0 c).owesAt () t.succ ∗ emp)) := by
  unfold bodyAt0
  rw [Phi_start, Phi_end]
  unfold Dat.owesAt Pipeline.owesWithin
  rw [show (dats m 0 c).owed t.castSucc = 0 from rfl, show (dats m 0 c).owed t.succ = 0 from rfl]
  unfold Pipeline.Ends
  rw [routed_eq, routed_eq, ownSems_eq, scopedRest0_eq, Y_arg0, Y_arg1, Y_arg2, Y_h, Y_counts]
  iintro ⟨⟨⟨A0, A1, A2, A3, A4⟩, HS, HX, Hg⟩, ⟨%w, -, HW⟩, -⟩
  iapply (wp_wand _) $$ [A0 A1 A2 A3 A4 HS HX HW]
  · iapply (body_run Variants.none c (V m c main_arg2) (V m c main_arg0) (V m c main_arg1))
    isplitl [A0]; · iexact A0
    isplitl [A1]; · iexact A1
    isplitl [A2]; · iexact A2
    isplitl [A3]; · iexists _; iexact A3
    isplitl [A4]; · iexists _; iexact A4
    isplitl [HX]; · iexact HX
    isplitl [HS]; · iexact HS
    unfold owesSome
    iexists w
    iexact HW
  iintro %r ⟨A0, A1, A2, A3, A4, HX, HS, HW⟩
  isplitl [A0 A1 A2 A3 A4 HX HS Hg]
  · isplitl [A0 A1 A2 A3 A4]
    · isplitl [A0]; · iexact A0
      isplitl [A1]; · iexact A1
      isplitl [A2]; · iexact A2
      isplitl [A3]; · iexact A3
      iexact A4
    isplitl [HS]; · iexact HS
    isplitl [HX]; · iexact HX
    iexact Hg
  isplitl [HW]
  · unfold owesSome
    icases HW with ⟨%w', HW⟩
    iexists w'
    isplitr; · ipureintro; exact fun _ _ => Or.inl trivial
    iexact HW
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmain : Pipeline.HMain (Ix := Unit) (Name := ℕ) (U := Pipeline.UC sig nD τ) (Lvl := ℕ) cfgs 0 defs₀ Variants.none m (main (F := F)) (V m) :=
  Pipeline.hmain_region cfgs 0 defs₀ Variants.none m main fun c => (main_chain c).trans rfl

set_option backward.isDefEq.respectTransparency.types false in
theorem run_main : θ_run defs (onTc (τ := τ) (main (F := F))) (s₀ m ρ)
    (fun r => Pipeline.RoutedPost cfgs (dats m) 0 R0 (V m) (Y m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m) (hA := A_eq m) (R := R0) (hR := R0_sub) (Y := Y m)
    (hin := fun _ => .rfl) (hout := fun _ => .rfl)

/-- Every run of the kernel ends, and its final state has the arguments as launched, `H` and the counts at what the
    kernel computes, and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v0_0) = hessian (m ((c.tc : Thread nD τ).loc main_arg2)) (m ((c.tc : Thread nD τ).loc main_arg0)) (m ((c.tc : Thread nD τ).loc main_arg1))
      ∧ r.2.mem ((c.tc : Thread nD τ).loc main_v0_1) = (cntArr (m ((c.tc : Thread nD τ).loc main_arg2)) : S16.Idx → Elt F .i32))
      ∧ r.2.sem = fun _ => 0) :=
  (θ_run defs _ _).mono (fun r h => ⟨fun c => ⟨((h.1 c).2.1 main_arg0 (by decide)).trans (Y_arg0 m c), ((h.1 c).2.1 main_arg1 (by decide)).trans (Y_arg1 m c),
    ((h.1 c).2.1 main_arg2 (by decide)).trans (Y_arg2 m c), ((h.1 c).2.1 main_v0_0 (by decide)).trans (Y_h m c),
    ((h.1 c).2.1 main_v0_1 (by decide)).trans (Y_counts m c)⟩, h.2⟩) (run_main m ρ)

end Cert.Proof.KernelIdeal

end
-- ==== Proof.Frames.lean ====
/-
  The frames of the three programs: each runs to its end without a fault, leaves its arguments as they were, and ends with
  every semaphore at zero.
-/
module

public import proofs.«01_k».proof.Defs
public import proofs.«01_k».proof.Proof.Gen.Kernel
public import proofs.«01_k».proof.Proof.Gen.ReferenceIdeal.Frame
public import proofs.«01_k».proof.Proof.KernelIdeal.Run

@[expose] public section

noncomputable section

namespace Cert.Proof

open Idealize.ShloMosaic Idealize.SL.Sem

/-- The idealized kernel's frame, from its run. -/
theorem frame_kernelIdeal : Cert.quiescent_KernelIdeal := fun m g _ =>
  (θ_run _ _ _).mono (fun r h => ⟨fun c => ⟨(h.1 c).1, (h.1 c).2.1, (h.1 c).2.2.1⟩, h.2⟩) (KernelIdeal.run m g)

set_option maxHeartbeats 4000000 in
/-- The kernel's frame. No operation of the kernel was rewritten, so the kernel and its idealization are the same program
    read at two kinds of numbers, and the run, which holds at any kind of numbers, serves both. -/
theorem frame_kernel : Cert.quiescent_Kernel := fun m g _ =>
  (θ_run _ _ _).mono (fun r h => ⟨fun c => ⟨(h.1 c).1, (h.1 c).2.1, (h.1 c).2.2.1⟩, h.2⟩) (KernelIdeal.run m g)

theorem frame_reference : Cert.quiescent_ReferenceIdeal := fun m g _ => Cert.ReferenceIdeal.Gen.frame m g

end Cert.Proof

end
-- ==== Proof.ReferenceIdeal.Run.lean ====
/-
  What the reference's run leaves: `H` expert by expert, each expert's product as the body computes it from that expert's
  two offsets, and the counts as differences of neighbouring offsets.
-/
module

public import proofs.«01_k».proof.Proof.Gen.ReferenceIdeal.Value
public import Idealize.ShloMosaic.Lib.WholeRead

@[expose] public section

noncomputable section

namespace Cert.Proof.ReferenceIdeal

open Cert.ReferenceIdeal Cert.ReferenceIdeal.Gen
open Idealize.ShloMosaic Idealize.ShloMosaic.TcCoe Idealize.SL.Sem

variable {F : FTy → Type} [FloatOps F]

/-- Offset number `n`. -/
def word (o : S17.Idx → BitVec 32) (n : ℕ) : BitVec 32 := if h : n < 17 then o (fun | ⟨0, _⟩ => ⟨n, h⟩) else 0

/-- The place of `H`'s element `y` in its expert's product. -/
def place (y : S16x2048x2048.Idx) : S1x2048x2048.Idx := fun
  | ⟨0, _⟩ => ⟨0, Nat.one_pos⟩
  | ⟨1, _⟩ => ⟨(y 1).val, (y 1).isLt⟩
  | ⟨2, _⟩ => ⟨(y 2).val, (y 2).isLt⟩

/-- `H` as the reference's body computes it. -/
def refH (o : S17.Idx → BitVec 32) (co : Vec F S256x2048 .fp8e4m3) (sc : Vec F S256x32 .f32) : Vec F S16x2048x2048 .f32 := fun y =>
  k0_pay1 co sc (word o (y 0).val) (word o ((y 0).val + 1)) (place y)

/-- The counts as the reference's body computes them. -/
def refCounts (o : S17.Idx → BitVec 32) : Vec F S16 .i32 := fun y =>
  Scalar.subi (word o ((y 0).val + 1)) (word o (y 0).val)

/-- The element of `H` that trip `k` stores its element `x` at. -/
abbrev slab (k : Fin k0_t1_loop.trips) (x : S1x2048x2048.Idx) : S16x2048x2048.Idx :=
  (Rect.unit (s := S16x2048x2048) (k0_off3 k) S1x2048x2048.size (k0_off3_inb k)).emb x

theorem slab_val (k : Fin k0_t1_loop.trips) (x : S1x2048x2048.Idx) (a : Fin 3) :
    (slab k x a).val = (![k.val, 0, 0] : Fin 3 → ℕ) a + 1 * (x a).val :=
  congrArg (fun off : Fin 3 → ℕ => off a + 1 * (x a).val) (k0_off3_eq k)

theorem slab_expert (k : Fin k0_t1_loop.trips) (x : S1x2048x2048.Idx) : (slab k x 0).val = k.val := by
  have hx : (x 0).val < 1 := (x 0).isLt
  have h := slab_val k x 0
  change _ = k.val + 1 * (x 0).val at h
  omega

theorem slab_place (k : Fin k0_t1_loop.trips) (x : S1x2048x2048.Idx) : place (slab k x) = x := by
  have hx : (x 0).val < 1 := (x 0).isLt
  have h1 := slab_val k x 1
  change _ = 0 + 1 * (x 1).val at h1
  have h2 := slab_val k x 2
  change _ = 0 + 1 * (x 2).val at h2
  funext a
  refine Fin.ext ?_
  fin_cases a
  · change 0 = (x 0).val; omega
  · change (slab k x 1).val = (x 1).val; omega
  · change (slab k x 2).val = (x 2).val; omega

/-- The count that trip `k` stores. -/
abbrev cell (k : Fin k0_t1_loop.trips) (x : S1.Idx) : S16.Idx := (Rect.unit (s := S16) (k0_off4 k) S1.size (k0_off4_inb k)).emb x

theorem cell_expert (k : Fin k0_t1_loop.trips) (x : S1.Idx) : (cell k x 0).val = k.val := by
  have hx : (x 0).val < 1 := (x 0).isLt
  have h : (cell k x 0).val = (![k.val] : Fin 1 → ℕ) 0 + 1 * (x 0).val :=
    congrArg (fun off : Fin 1 → ℕ => off 0 + 1 * (x 0).val) (k0_off4_eq k)
  change _ = k.val + 1 * (x 0).val at h
  omega

section Trip
variable (c : Dev nD) (arg0 : Memref sig .tc .smem S17 .i32) (harg0 : arg0.IsWhole)
  (arg1 : Memref sig .tc .vmem S256x2048 .fp8e4m3) (harg1 : arg1.IsWhole) (arg2 : Memref sig .tc .vmem S256x32 .f32) (harg2 : arg2.IsWhole)
  (arg3 : Memref sig .tc .vmem S16x2048x2048 .f32) (harg3 : arg3.IsWhole) (arg4 : Memref sig .tc .smem S16 .i32) (harg4 : arg4.IsWhole)
  (x0 : Vec F S17 .i32) (x1 : Vec F S256x2048 .fp8e4m3) (x2 : Vec F S256x32 .f32)

/-- The word a trip reads at its own number. -/
theorem word_here (k : Fin k0_t1_loop.trips) : trip_k0_t1.sl.r (F := F) arg0 (harg0.unread x0) k = word x0 k.val := by
  have hk : k.val < 16 := Nat.lt_of_lt_of_le k.isLt k0_t1_abs.2.1
  unfold trip_k0_t1.sl.r word
  rw [harg0.readAt_unread, dif_pos (by omega : k.val < 17)]
  refine congrArg x0 (funext fun a => Fin.ext ?_)
  fin_cases a
  change k0_off1 k 0 + 1 * 0 = k.val
  rw [k0_off1_eq]; rfl

/-- The word a trip reads at the next number. -/
theorem word_next (k : Fin k0_t1_loop.trips) : trip_k0_t1.sl.r_1 (F := F) arg0 (harg0.unread x0) k = word x0 (k.val + 1) := by
  have hk : k.val < 16 := Nat.lt_of_lt_of_le k.isLt k0_t1_abs.2.1
  unfold trip_k0_t1.sl.r_1 word
  rw [harg0.readAt_unread, dif_pos (by omega : k.val + 1 < 17)]
  refine congrArg x0 (funext fun a => Fin.ext ?_)
  fin_cases a
  change k0_off2 k 0 + 1 * 0 = k.val + 1
  rw [k0_off2_eq]; rfl

variable (𝒱 : Variants) (bd : Option 𝒱.V)

/-- Every piece a trip writes is a piece of the whole result. -/
theorem trip_pieces (k : Fin k0_t1_loop.trips) :
    (∀ p ∈ (tripL_k0_t1 (F := F) 𝒱 c bd arg0 harg0 arg1 harg1 arg2 harg2 arg3 harg3 arg4 harg4 x1 x2 (harg0.unread x0) k).1,
        ∀ x : p.1.shape.Idx, p.2 x = refH x0 x1 x2 (p.1.emb x))
    ∧ ∀ p ∈ (tripL_k0_t1 (F := F) 𝒱 c bd arg0 harg0 arg1 harg1 arg2 harg2 arg3 harg3 arg4 harg4 x1 x2 (harg0.unread x0) k).2,
        ∀ x : p.1.shape.Idx, p.2 x = refCounts (F := F) x0 (p.1.emb x) := by
  unfold tripL_k0_t1 trip_k0_t1
  refine ⟨fun p hp x => ?_, fun p hp x => ?_⟩
  · obtain rfl := List.mem_singleton.mp hp
    change k0_pay1 x1 x2 (trip_k0_t1.sl.r arg0 (harg0.unread x0) k) (trip_k0_t1.sl.r_1 arg0 (harg0.unread x0) k) x = refH x0 x1 x2 (slab k x)
    unfold refH
    rw [slab_expert, slab_place, word_here, word_next]
  · obtain rfl := List.mem_singleton.mp hp
    change Scalar.subi (trip_k0_t1.sl.r_1 arg0 (harg0.unread x0) k) (trip_k0_t1.sl.r arg0 (harg0.unread x0) k) = refCounts (F := F) x0 (cell k x)
    unfold refCounts
    rw [cell_expert, word_here, word_next]

/-- Every piece the first `k` trips write is a piece of the whole result. -/
theorem loop_pieces (k : ℕ) (hk : k ≤ k0_t1_loop.trips) :
    (∀ p ∈ (pb_k0_t1 (F := F) 𝒱 c bd arg0 harg0 arg1 harg1 arg2 harg2 arg3 harg3 arg4 harg4 x1 x2 (harg0.unread x0) k).1,
        ∀ x : p.1.shape.Idx, p.2 x = refH x0 x1 x2 (p.1.emb x))
    ∧ ∀ p ∈ (pb_k0_t1 (F := F) 𝒱 c bd arg0 harg0 arg1 harg1 arg2 harg2 arg3 harg3 arg4 harg4 x1 x2 (harg0.unread x0) k).2,
        ∀ x : p.1.shape.Idx, p.2 x = refCounts (F := F) x0 (p.1.emb x) := by
  induction k with
  | zero => exact ⟨fun p hp => absurd hp List.not_mem_nil, fun p hp => absurd hp List.not_mem_nil⟩
  | succ k ih =>
    rw [pb_k0_t1_succ (F := F) 𝒱 c bd arg0 harg0 arg1 harg1 arg2 harg2 arg3 harg3 arg4 harg4 x1 x2 (harg0.unread x0) ⟨k, hk⟩]
    have hT := trip_pieces c arg0 harg0 arg1 harg1 arg2 harg2 arg3 harg3 arg4 harg4 x0 x1 x2 𝒱 bd ⟨k, hk⟩
    have hI := ih (Nat.le_of_succ_le hk)
    exact ⟨fun p hp => (List.mem_append.mp hp).elim (hT.1 p) (hI.1 p), fun p hp => (List.mem_append.mp hp).elim (hT.2 p) (hI.2 p)⟩

theorem load_codes : View.readAt (Elt F) arg1.view (Rect.unit (s := S256x2048) ![0, 0] S256x2048.size inb_S256x2048_S256x2048_0_0).toLoadRect (harg1.unread x1) = x1 := by
  funext x
  rw [harg1.readAt_unread]
  refine congrArg x1 (funext fun a => Fin.ext ?_)
  fin_cases a
  · change 0 + 1 * (x 0).val = (x 0).val; omega
  · change 0 + 1 * (x 1).val = (x 1).val; omega

theorem load_scales : View.readAt (Elt F) arg2.view (Rect.unit (s := S256x32) ![0, 0] S256x32.size inb_S256x32_S256x32_0_0).toLoadRect (harg2.unread x2) = x2 := by
  funext x
  rw [harg2.readAt_unread]
  refine congrArg x2 (funext fun a => Fin.ext ?_)
  fin_cases a
  · change 0 + 1 * (x 0).val = (x 0).val; omega
  · change 0 + 1 * (x 1).val = (x 1).val; omega

/-- Every piece the body writes is a piece of the whole result. -/
theorem run_pieces :
    (∀ p ∈ (kernelRun0_A c arg0 harg0 arg1 harg1 arg2 harg2 arg3 harg3 arg4 harg4 x0 x1 x2).1,
        ∀ x : p.1.shape.Idx, p.2 x = refH x0 x1 x2 (p.1.emb x))
    ∧ ∀ p ∈ (kernelRun0_A c arg0 harg0 arg1 harg1 arg2 harg2 arg3 harg3 arg4 harg4 x0 x1 x2).2.1,
        ∀ x : p.1.shape.Idx, p.2 x = refCounts (F := F) x0 (p.1.emb x) := by
  have h := loop_pieces c arg0 harg0 arg1 harg1 arg2 harg2 arg3 harg3 arg4 harg4 x0 x1 x2 Variants.none none _ (le_refl k0_t1_loop.trips)
  unfold kernelRun0_A
  dsimp only
  rw [load_codes arg1 harg1 x1, load_scales arg2 harg2 x2]
  exact h

theorem out_H : out0_A_3 c arg0 harg0 arg1 harg1 arg2 harg2 arg3 harg3 arg4 harg4 x0 x1 x2 = refH x0 x1 x2 :=
  funext fun y => View.read_writes_apply_of_pieces _ _ _ _ (run_pieces c arg0 harg0 arg1 harg1 arg2 harg2 arg3 harg3 arg4 harg4 x0 x1 x2).1 y
    (cover0_A_3 c arg0 harg0 arg1 harg1 arg2 harg2 arg3 harg3 arg4 harg4 x0 x1 x2 y)

theorem out_counts : out0_A_4 c arg0 harg0 arg1 harg1 arg2 harg2 arg3 harg3 arg4 harg4 x0 x1 x2 = refCounts (F := F) x0 :=
  funext fun y => View.read_writes_apply_of_pieces _ _ _ _ (run_pieces c arg0 harg0 arg1 harg1 arg2 harg2 arg3 harg3 arg4 harg4 x0 x1 x2).2 y
    (cover0_A_4 c arg0 harg0 arg1 harg1 arg2 harg2 arg3 harg3 arg4 harg4 x0 x1 x2 y)

end Trip

/-! ## The arrays after the run -/

variable (m : (ℓ : Loc nD τ sig) → Buf (Elt F) ℓ) (ρ : Dev nD → PrngReg)

theorem block_offsets (c : Dev nD) (t : Fin cfg0.N) : iblk m c 0 t = V m c main_arg2 := by
  funext y
  refine congrArg (V m c main_arg2) (funext fun a => Fin.ext ?_)
  change 0 * S17.size a + 1 * (y a).val = (y a).val
  omega

theorem block_codes (c : Dev nD) (t : Fin cfg0.N) : iblk m c 1 t = V m c main_arg0 := by
  funext y
  refine congrArg (V m c main_arg0) (funext fun a => Fin.ext ?_)
  change 0 * S256x2048.size a + 1 * (y a).val = (y a).val
  omega

theorem block_scales (c : Dev nD) (t : Fin cfg0.N) : iblk m c 2 t = V m c main_arg1 := by
  funext y
  refine congrArg (V m c main_arg1) (funext fun a => Fin.ext ?_)
  change 0 * S256x32.size a + 1 * (y a).val = (y a).val
  omega

theorem final_H (c : Dev nD) : (dats m 0 c).arrAt 3 cfg0.N = refH (V m c main_arg2) (V m c main_arg0) (V m c main_arg1) := by
  have h := Value.blocks3 m c t0_0 (by decide)
  rw [Value.flushed3_A, out_H, block_offsets, block_codes, block_scales] at h
  funext y
  refine Eq.trans (congrArg ((dats m 0 c).arrAt 3 cfg0.N) (funext fun a => Fin.ext ?_)) (congrFun h y)
  change (y a).val = 0 * S16x2048x2048.size a + 1 * (y a).val
  omega

theorem final_counts (c : Dev nD) : (dats m 0 c).arrAt 4 cfg0.N = refCounts (F := F) (V m c main_arg2) := by
  have h := Value.blocks4 m c t0_0 (by decide)
  rw [Value.flushed4_A, out_counts, block_offsets] at h
  funext y
  refine Eq.trans (congrArg ((dats m 0 c).arrAt 4 cfg0.N) (funext fun a => Fin.ext ?_)) (congrFun h y)
  change (y a).val = 0 * S16.size a + 1 * (y a).val
  omega

/-- Every run of the reference ends with `H` and the counts at what its body computes, and the arguments as launched. -/
theorem run : θ_run defs (onTc (τ := τ) (main (F := F))) ⟨m, fun _ => 0, ρ⟩ fun r => ∀ c : Dev nD,
      r.2.mem ((c.tc : Thread nD τ).loc main_v0_0) = refH (m ((c.tc : Thread nD τ).loc main_arg2)) (m ((c.tc : Thread nD τ).loc main_arg0)) (m ((c.tc : Thread nD τ).loc main_arg1))
      ∧ r.2.mem ((c.tc : Thread nD τ).loc main_v0_1) = refCounts (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_H m c), (h c).2.1.trans (final_counts m c), (h c).2.2⟩) (Value.run_blocks m ρ)

end Cert.Proof.ReferenceIdeal

end
-- ==== Proof.Equation.lean ====
/-
  At real arithmetic the kernel and the reference compute the same numbers: each element of `H` is a sum over the 256 rows,
  in which a row outside the expert's range counts for zero, and an expert with no rows has the zero block either way.
-/
module

public import proofs.«01_k».proof.Proof.KernelIdeal.Ends
public import proofs.«01_k».proof.Proof.ReferenceIdeal.Run
public import Idealize.ShloMosaic.Lib.Pointwise

@[expose] public section

set_option maxRecDepth 16384

noncomputable section

namespace Cert.Proof

open Idealize.ShloMosaic

variable (o : Cert.KernelIdeal.S17.Idx → BitVec 32) (co : Vec Ideal Cert.KernelIdeal.S256x2048 .fp8e4m3)
  (sc : Vec Ideal Cert.KernelIdeal.S256x32 .f32)

/-- The dequantized value at row `r`, column `d`: the code times the scale of the column's group of 64. -/
def deq (r : Fin 256) (d : Fin 2048) : EReal :=
  co (ix2 r d) * sc (ix2 r (⟨d.val / 64, by omega⟩ : Fin 32))

/-- Whether row `r` is one of the rows from `lo` up to `hi`, as both programs ask it. -/
def within (lo hi : BitVec 32) (r : Fin 256) : BitVec 1 :=
  IntOp.andi (IntOp.cmpi .sge (BitVec.ofNat 32 r.val) lo) (IntOp.cmpi .slt (BitVec.ofNat 32 r.val) hi)

/-- Element `(d, f)` of the product of the rows from `lo` up to `hi`. -/
def gram (lo hi : BitVec 32) (d f : Fin 2048) : EReal :=
  ∑ r : Fin 256, Scalar.select (within lo hi r) (deq co sc r d * deq co sc r f) 0

/-- No row is within an empty range. -/
theorem within_empty {lo hi : BitVec 32} (h : lo.slt hi = false) (r : Fin 256) : within lo hi r = 0#1 := by
  unfold within IntOp.andi IntOp.cmpi
  simp only [BitVec.slt, BitVec.sle, decide_eq_false_iff_not] at h ⊢
  by_cases h1 : lo.toInt ≤ (BitVec.ofNat 32 r.val).toInt <;> by_cases h2 : (BitVec.ofNat 32 r.val).toInt < hi.toInt
  · exact absurd (lt_of_le_of_lt h1 h2) h
  all_goals simp [h1, h2]

/-- The product of no rows is zero. -/
theorem gram_empty {lo hi : BitVec 32} (h : lo.slt hi = false) (d f : Fin 2048) : gram co sc lo hi d f = 0 := by
  unfold gram
  simp only [within_empty h]
  exact Finset.sum_eq_zero fun _ _ => rfl

theorem xIx_eq (r : Fin 256) (d : Fin 2048) : KernelIdeal.xIx r.val d.val r.isLt d.isLt = ix2 r d := by
  funext a; fin_cases a <;> rfl

theorem sIx_eq (r : Fin 256) (j : Fin 32) : KernelIdeal.sIx r.val j.val r.isLt j.isLt = ix2 r j := by
  funext a; fin_cases a <;> rfl

/-- The kernel's operand holds the dequantized values. -/
theorem xsVal_apply (r : Fin 256) (d : Fin 2048) : KernelIdeal.xsVal (F := Ideal) co sc (ix2 r d) = deq co sc r d := by
  have hs := sIx_eq r (⟨d.val / 64, by omega⟩ : Fin 32)
  unfold KernelIdeal.xsVal KernelIdeal.scaleOf deq
  pointwise [Cert.KernelIdeal.Gen.k0_pay13]
  exact congrArg (fun i => co (ix2 r d) * sc i) hs

/-- Window `i` of the kernel's transposed operand. -/
theorem xtAt_apply (i : Fin 8) (a r : Fin 256) :
    KernelIdeal.xtAt (F := Ideal) (KernelIdeal.xtVal (F := Ideal) co sc) i (ix2 a r) = deq co sc r (⟨256 * i.val + a.val, by omega⟩ : Fin 2048) := by
  rw [← xsVal_apply]
  exact congrArg (KernelIdeal.xsVal (F := Ideal) co sc) (xIx_eq r (⟨256 * i.val + a.val, by omega⟩ : Fin 2048))

/-- The kernel's product of one window, at an element. -/
theorem prod_apply (lo hi : BitVec 32) (i : Fin 8) (a : Fin 256) (f : Fin 2048) :
    KernelIdeal.prod (F := Ideal) (KernelIdeal.xsVal co sc) (KernelIdeal.xtVal co sc) lo hi i (ix3 (0 : Fin 1) a f)
      = gram co sc lo hi (⟨256 * i.val + a.val, by omega⟩ : Fin 2048) f := by
  unfold KernelIdeal.prod gram
  pointwise [Cert.KernelIdeal.Gen.k0_pay5, Cert.KernelIdeal.Gen.k0_pay1]
  refine Finset.sum_congr rfl fun r _ => ?_
  rw [xtAt_apply, xsVal_apply]
  rfl

/-- The reference's product, at an element. -/
theorem ref_apply (lo hi : BitVec 32) (d f : Fin 2048) :
    Cert.ReferenceIdeal.Gen.k0_pay1 (F := Ideal) co sc lo hi (ix3 (0 : Fin 1) d f) = gram co sc lo hi d f := by
  unfold gram deq within
  pointwise [Cert.ReferenceIdeal.Gen.k0_pay1]

theorem place_eq (y : Cert.ReferenceIdeal.S16x2048x2048.Idx) :
    ReferenceIdeal.place y = ix3 (0 : Fin 1) (⟨(y 1).val, (y 1).isLt⟩ : Fin 2048) (⟨(y 2).val, (y 2).isLt⟩ : Fin 2048) := by
  funext a; fin_cases a <;> rfl

theorem inW_eq (y : Cert.KernelIdeal.S16x2048x2048.Idx) :
    (Fin.cons (⟨0, Nat.one_pos⟩ : Fin 1) (KernelIdeal.inW y) : Cert.KernelIdeal.S1x256x2048.Idx)
      = ix3 (0 : Fin 1) (⟨(y 1).val % 256, Nat.mod_lt _ (by decide)⟩ : Fin 256) (⟨(y 2).val, (y 2).isLt⟩ : Fin 2048) := by
  funext a; fin_cases a <;> rfl

/-- The block the kernel stores for an expert with no rows is zero. -/
theorem zero_block (x : Cert.KernelIdeal.S256x2048.Idx) : Cert.KernelIdeal.Gen.k0_pay12 (F := Ideal) x = (0 : EReal) := by
  pointwise [Cert.KernelIdeal.Gen.k0_pay12]

/-- The kernel's `H` is the reference's. -/
theorem hessian_eq : KernelIdeal.hessian (F := Ideal) o co sc = ReferenceIdeal.refH (F := Ideal) o co sc := by
  funext y
  have hd : (⟨256 * ((y 1).val / 256) + (y 1).val % 256, by have : (y 1).val < 2048 := (y 1).isLt; omega⟩ : Fin 2048) = ⟨(y 1).val, (y 1).isLt⟩ :=
    Fin.ext (Nat.div_add_mod _ _)
  unfold KernelIdeal.hessian KernelIdeal.target ReferenceIdeal.refH
  rw [place_eq, ref_apply]
  cases hb : KernelIdeal.busy o (y 0).val
  · rw [if_neg (by decide), zero_block]
    exact (gram_empty co sc hb _ _).symm
  · rw [if_pos rfl, inW_eq, prod_apply, hd]
    rfl

/-- The kernel's counts are the reference's. -/
theorem counts_eq : (KernelIdeal.cntArr o : Vec Ideal Cert.KernelIdeal.S16 .i32) = ReferenceIdeal.refCounts (F := Ideal) o := rfl

end Cert.Proof

end
-- ==== Proof.Algebraic.lean ====
/-
  The value claim: at real arithmetic, launched on the same arguments, the kernel and the reference end with the same `H` and
  the same counts.
-/
module

public import proofs.«01_k».proof.Defs
public import proofs.«01_k».proof.Proof.KernelIdeal.Run
public import proofs.«01_k».proof.Proof.Equation

@[expose] public section

noncomputable section

namespace Cert.Proof

open Idealize.ShloMosaic Idealize.SL.Sem

theorem algebraic : Cert.algebraic_KernelIdeal_ReferenceIdeal := by
  intro m g m' g' _ hargs
  refine ⟨_, _, (θ_run _ _ _).mono (fun r h c => ⟨(h.1 c).2.2.2.1, (h.1 c).2.2.2.2, (h.1 c).1, (h.1 c).2.1, (h.1 c).2.2.1⟩) (KernelIdeal.run m g),
    (θ_run _ _ _).mono (fun r h c => ⟨?_, ?_, (h c).2.2⟩) (ReferenceIdeal.run m' g')⟩
  · refine (h c).1.trans ?_
    rw [(hargs c).1, (hargs c).2.1, (hargs c).2.2]
    exact (hessian_eq _ _ _).symm
  · refine (h c).2.1.trans ?_
    rw [(hargs c).2.2]
    exact (counts_eq _).symm

end Cert.Proof

end
-- ==== Proof.lean ====
/-
  The certificate: the frames of the kernel, of its idealization and of the reference, and the value claim, that at real
  arithmetic the kernel's two results are the reference's.
-/
module

public import proofs.«01_k».proof.Defs
public import proofs.«01_k».proof.Proof.Frames
public import proofs.«01_k».proof.Proof.Algebraic

@[expose] public section

noncomputable section

theorem Cert.Proof.claim : Cert.Claim :=
  ⟨Cert.Kernel.Gen.facts, Cert.KernelIdeal.Gen.facts, Cert.ReferenceIdeal.Gen.facts,
    Cert.Proof.frame_kernel, Cert.Proof.frame_kernelIdeal, Cert.Proof.frame_reference, trivial, Cert.Proof.algebraic⟩

end
